-- ==== Defs.lean ====
def Pre_Kernel [hPre_inputs_tame : Cert.Pre_inputs_tame.Facts] (m : (ℓ : Loc Cert.Kernel.nD Cert.Kernel.τ Cert.Kernel.sig) → Buf (Elt Bits) ℓ) : Prop :=
  ∀ c : Dev Cert.Kernel.nD,
    (Cert.Pre_inputs_tame.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_inputs_tame : Cert.Pre_inputs_tame.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_tame : Cert.Pre_inputs_tame.Facts),
    quiescent_Kernel (hKernel := hKernel) (hPre_inputs_tame := hPre_inputs_tame)
    ∧ quiescent_KernelIdeal (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal (hKernelIdeal := hKernelIdeal) (hReferenceIdeal := hReferenceIdeal) (hPre_inputs_tame := hPre_inputs_tame)
-- ==== Pre_inputs_tame.lean ====
abbrev S32768x3 : Shape := ⟨2, ![32768, 3]⟩
abbrev S1 : Shape := ⟨1, ![1]⟩
abbrev S512x64 : Shape := ⟨2, ![512, 64]⟩
abbrev S_ : Shape := ⟨0, ![]⟩
abbrev S32768x1 : Shape := ⟨2, ![32768, 1]⟩
abbrev S32768 : Shape := ⟨1, ![32768]⟩

class Facts : Prop where
  bcast_S_S512x64 : S_.BroadcastsInDim S512x64 (![] : Fin 0 → Fin S512x64.rank)
  slices_S32768x3_S32768x1_0_0 : S32768x3.Slices ![0, 0] S32768x1
  shapeCasts_S32768x1_S32768 : S32768x1.ShapeCasts S32768
  shapeCasts_S32768_S512x64 : S32768.ShapeCasts S512x64
  shapeCasts_S1_S_ : S1.ShapeCasts S_

variable [Facts]

def fn {F : FTy → Type} [FloatOps F] (main_arg0 : FVec F S32768x3 .f32) (main_arg1 : FVec F S1 .f32) (main_arg2 : FVec F S1 .f32) (main_arg3 : FVec F S1 .f32) (main_arg4 : FVec F S1 .f32) : IVec S512x64 1 :=
  let main_v0 : IVec S512x64 32 := iotaInDim S512x64 32 0
  let main_c : IVec S_ 32 := constantI S_ 32 1#32
  let main_v1 : IVec S512x64 32 := broadcastInDim S512x64 ![] bcast_S_S512x64 main_c
  let main_v2 : IVec S512x64 32 := addi main_v0 main_v1
  let main_v3 : FVec F S512x64 .f32 := sitofp .f32 main_v2
  let main_v4 : FVec F S32768x1 .f32 := (extractStridedSlice S32768x1 ![0, 0] · slices_S32768x3_S32768x1_0_0) main_arg0
  let main_v5 : FVec F S32768 .f32 := shapeCast S32768 main_v4 shapeCasts_S32768x1_S32768
  let main_v6 : FVec F S512x64 .f32 := shapeCast S512x64 main_v5 shapeCasts_S32768_S512x64
  let main_v7 : IVec S512x64 1 := cmpf .oeq main_v6 main_v3
  let main_v8 : FVec F S_ .f32 := shapeCast S_ main_arg3 shapeCasts_S1_S_
  let main_cst : FVec F S_ .f32 := constant S_ .f32 0xFF800000#32
  let main_v9 : IVec S_ 1 := cmpf .ogt main_v8 main_cst
  let main_v10 : IVec S512x64 1 := broadcastInDim S512x64 ![] bcast_S_S512x64 main_v9
  let main_v11 : IVec S512x64 1 := andi main_v7 main_v10
  let main_v12 : FVec F S_ .f32 := shapeCast S_ main_arg4 shapeCasts_S1_S_
  let main_cst_0 : FVec F S_ .f32 := constant S_ .f32 0x00000000#32
  let main_v13 : IVec S_ 1 := cmpf .une main_v12 main_cst_0
  let main_v14 : IVec S512x64 1 := broadcastInDim S512x64 ![] bcast_S_S512x64 main_v13
  let main_v15 : IVec S512x64 1 := andi main_v11 main_v14
  main_v15
-- ==== Kernel.lean ====
abbrev S32768x3 : Shape := ⟨2, ![32768, 3]⟩
abbrev S1 : Shape := ⟨1, ![1]⟩
abbrev S_ : Shape := ⟨0, ![]⟩
abbrev S32768x1 : Shape := ⟨2, ![32768, 1]⟩
abbrev S32768 : Shape := ⟨1, ![32768]⟩
abbrev S2048 : Shape := ⟨1, ![2048]⟩
abbrev S34816 : Shape := ⟨1, ![34816]⟩
abbrev S32 : Shape := ⟨1, ![32]⟩
abbrev S32x16 : Shape := ⟨2, ![32, 16]⟩
abbrev S512 : Shape := ⟨1, ![512]⟩
abbrev S3072 : Shape := ⟨1, ![3072]⟩
abbrev S1024 : Shape := ⟨1, ![1024]⟩
abbrev S16 : Shape := ⟨1, ![16]⟩
abbrev S3 : Shape := ⟨1, ![3]⟩
abbrev S256x128 : Shape := ⟨2, ![256, 128]⟩
abbrev S1x1 : Shape := ⟨2, ![1, 1]⟩
abbrev S1x256x128 : Shape := ⟨3, ![1, 256, 128]⟩
abbrev S1x1x1 : Shape := ⟨3, ![1, 1, 1]⟩

abbrev nBuf : Table → Nat
  | .hbm => 69
  | .local .tc .vmem => 2
  | .local .tc .smem => 4
  | .local .scVector .vmem => 4
  | _ => 0

abbrev bufTy : (tb : Table) → Fin (nBuf tb) → BufTy
  | .hbm, ⟨0, _⟩ => ⟨S32768x3, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768x1, .f32⟩
  | .hbm, ⟨10, _⟩ => ⟨S32768, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32768x1, .f32⟩
  | .hbm, ⟨18, _⟩ => ⟨S32768, .f32⟩
  | .hbm, ⟨19, _⟩ => ⟨S32768, .f32⟩
  | .hbm, ⟨20, _⟩ => ⟨S32768, .f32⟩
  | .hbm, ⟨21, _⟩ => ⟨S32768x1, .f32⟩
  | .hbm, ⟨22, _⟩ => ⟨S32768, .f32⟩
  | .hbm, ⟨23, _⟩ => ⟨S32768, .f32⟩
  | .hbm, ⟨24, _⟩ => ⟨S32768, .f32⟩
  | .hbm, ⟨25, _⟩ => ⟨S_, .f32⟩
  | .hbm, ⟨26, _⟩ => ⟨S2048, .f32⟩
  | .hbm, ⟨27, _⟩ => ⟨S34816, .f32⟩
  | .hbm, ⟨28, _⟩ => ⟨S34816, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S32x16, .f32⟩
  | .hbm, ⟨48, _⟩ => ⟨S512, .f32⟩
  | .hbm, ⟨49, _⟩ => ⟨S32768, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1, .f32⟩
  | .hbm, ⟨60, _⟩ => ⟨S3, .f32⟩
  | .hbm, ⟨61, _⟩ => ⟨S256x128, .f32⟩
  | .hbm, ⟨62, _⟩ => ⟨S256x128, .f32⟩
  | .hbm, ⟨63, _⟩ => ⟨S1x1, .f32⟩
  | .hbm, ⟨64, _⟩ => ⟨S1x1, .f32⟩
  | .hbm, ⟨65, _⟩ => ⟨S1x1, .f32⟩
  | .hbm, ⟨66, _⟩ => ⟨S_, .f32⟩
  | .hbm, ⟨67, _⟩ => ⟨S_, .f32⟩
  | .hbm, ⟨68, _⟩ => ⟨S_, .f32⟩
  | .local .tc .vmem, ⟨0, _⟩ => ⟨S256x128, .f32⟩
  | .local .tc .vmem, ⟨1, _⟩ => ⟨S256x128, .f32⟩
  | .local .tc .smem, ⟨0, _⟩ => ⟨S3, .f32⟩
  | .local .tc .smem, ⟨1, _⟩ => ⟨S1x1, .f32⟩
  | .local .tc .smem, ⟨2, _⟩ => ⟨S1x1, .f32⟩
  | .local .tc .smem, ⟨3, _⟩ => ⟨S1x1, .f32⟩
  | .local .scVector .vmem, ⟨0, _⟩ => ⟨S3072, .f32⟩
  | .local .scVector .vmem, ⟨1, _⟩ => ⟨S3072, .f32⟩
  | .local .scVector .vmem, ⟨2, _⟩ => ⟨S512, .f32⟩
  | .local .scVector .vmem, ⟨3, _⟩ => ⟨S1024, .f32⟩
  | _, _ => ⟨S32768x3, .f32⟩

abbrev bufScoped : (cs : CoreSpace) → Fin (nBuf (.local .tc cs)) → Bool
  | .vmem, ⟨0, _⟩ => true
  | .vmem, ⟨1, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51_0 : Ref sig .tc := ⟨.hbm, 63, rfl⟩
abbrev main_v51_1 : Ref sig .tc := ⟨.hbm, 64, rfl⟩
abbrev main_v51_2 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v19_scv : Ref sig .scVector := ⟨.hbm, 27, rfl⟩
abbrev main_v20_scv : Ref sig .scVector := ⟨.hbm, 28, rfl⟩
abbrev main_v37_scv : Ref sig .scVector := ⟨.hbm, 48, rfl⟩
abbrev main_v38_scv : Ref sig .scVector := ⟨.hbm, 49, rfl⟩
abbrev cc1_stg0_0 : Ref sig .tc := ⟨.vmem, 0, rfl⟩
abbrev cc1_stg1_0 : Ref sig .tc := ⟨.vmem, 1, rfl⟩
abbrev cc1_stg2_0 : Ref sig .tc := ⟨.smem, 0, rfl⟩
abbrev cc1_stg3_0 : Ref sig .tc := ⟨.smem, 1, rfl⟩
abbrev cc1_stg4_0 : Ref sig .tc := ⟨.smem, 2, rfl⟩
abbrev cc1_stg5_0 : Ref sig .tc := ⟨.smem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  ![v2.toNat]
@[reducible] def k0_t1_loop : Scf.Loop 32 :=
  let c0_i32_1 : BitVec 32 := 0#32
  let c16_i32_2 : BitVec 32 := 16#32
  let v4 : BitVec 32 := Scalar.addi c0_i32_1 c16_i32_2
  let c1_i32 : BitVec 32 := 1#32
  ⟨c0_i32_1, v4, c1_i32⟩
def k0_off2 (k0_t1 : Fin k0_t1_loop.trips) (c0_i32_4 : BitVec 32) : Fin 1 → Nat :=
  let c32_i32 : BitVec 32 := 32#32
  let c0_i32_1 : BitVec 32 := 0#32
  let c1_i32 : BitVec 32 := 1#32
  let arg10 : BitVec 32 := Scf.iv c0_i32_1 c1_i32 k0_t1
  let v5 : BitVec 32 := Scalar.addi c32_i32 arg10
  let c64_i32 : BitVec 32 := 64#32
  let v6 : BitVec 32 := Scalar.muli v5 c64_i32
  let v7 : BitVec 32 := Scalar.addi v6 c0_i32_4
  let v8 : Index := Scalar.indexCast v7
  ![v8.toNat]
@[reducible] def k0_t2_loop (i : grid0.Coords) (k0_t1 : Fin k0_t1_loop.trips) : Scf.Loop 32 :=
  let c1_i32_13 : BitVec 32 := 1#32
  let c32_i32_11 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v3 : BitVec 32 := Scalar.muli v1 c16_i32_0
  let c0_i32_1 : BitVec 32 := 0#32
  let c1_i32 : BitVec 32 := 1#32
  let arg10 : BitVec 32 := Scf.iv c0_i32_1 c1_i32 k0_t1
  let v39 : BitVec 32 := Scalar.addi v3 arg10
  let v40 : BitVec 32 := Scalar.minsi c32_i32_11 v39
  let c1_i32_12 : BitVec 32 := 1#32
  let v42 : BitVec 32 := Scalar.addi v40 c1_i32_12
  let v43 : BitVec 32 := Scalar.subi v42 c1_i32_13
  let c1_i32_14 : BitVec 32 := 1#32
  let v45 : BitVec 32 := Scalar.divsi v43 c1_i32_14
  let v46 : BitVec 32 := Scalar.muli v45 c1_i32_14
  let v47 : BitVec 32 := Scalar.addi c1_i32_13 v46
  let c1_i32_15 : BitVec 32 := 1#32
  ⟨c1_i32_13, v47, c1_i32_15⟩
def k0_off3 (i : grid0.Coords) (k0_t1 : Fin k0_t1_loop.trips) (k0_t2 : Fin (k0_t2_loop i k0_t1).trips) : Fin 1 → Nat :=
  let c1_i32_13 : BitVec 32 := 1#32
  let c1_i32_15 : BitVec 32 := 1#32
  let arg11 : BitVec 32 := Scf.iv c1_i32_13 c1_i32_15 k0_t2
  let c1_i32_24 : BitVec 32 := 1#32
  let v74 : BitVec 32 := Scalar.subi arg11 c1_i32_24
  let c16_i32_25 : BitVec 32 := 16#32
  let v75 : BitVec 32 := Scalar.muli v74 c16_i32_25
  let v76 : Index := Scalar.indexCast v75
  ![v76.toNat]
@[reducible] def k0_t3_loop : Scf.Loop 32 :=
  let c0_i32_26 : BitVec 32 := 0#32
  let c4_i32 : BitVec 32 := 4#32
  let v79 : BitVec 32 := Scalar.addi c0_i32_26 c4_i32
  let c1_i32_27 : BitVec 32 := 1#32
  ⟨c0_i32_26, v79, c1_i32_27⟩
def k0_off4 (i : grid0.Coords) (k0_t1 : Fin k0_t1_loop.trips) (k0_t2 : Fin (k0_t2_loop i k0_t1).trips) (k0_t3 : Fin k0_t3_loop.trips) : Fin 1 → Nat :=
  let c32_i32_22 : BitVec 32 := 32#32
  let c0_i32_1 : BitVec 32 := 0#32
  let c1_i32 : BitVec 32 := 1#32
  let arg10 : BitVec 32 := Scf.iv c0_i32_1 c1_i32 k0_t1
  let v71 : BitVec 32 := Scalar.addi c32_i32_22 arg10
  let c1_i32_13 : BitVec 32 := 1#32
  let c1_i32_15 : BitVec 32 := 1#32
  let arg11 : BitVec 32 := Scf.iv c1_i32_13 c1_i32_15 k0_t2
  let v72 : BitVec 32 := Scalar.subi v71 arg11
  let c64_i32_23 : BitVec 32 := 64#32
  let v73 : BitVec 32 := Scalar.muli v72 c64_i32_23
  let c0_i32_26 : BitVec 32 := 0#32
  let c1_i32_27 : BitVec 32 := 1#32
  let arg16 : BitVec 32 := Scf.iv c0_i32_26 c1_i32_27 k0_t3
  let c16_i32_29 : BitVec 32 := 16#32
  let v81 : BitVec 32 := Scalar.muli arg16 c16_i32_29
  let v82 : BitVec 32 := Scalar.addi v73 v81
  let v83 : Index := Scalar.indexCast v82
  ![v83.toNat]
@[reducible] def k0_t4_loop (i : grid0.Coords) (k0_t1 : Fin k0_t1_loop.trips) : Scf.Loop 32 :=
  let c1_i32_13 : BitVec 32 := 1#32
  let c32_i32_11 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v3 : BitVec 32 := Scalar.muli v1 c16_i32_0
  let c0_i32_1 : BitVec 32 := 0#32
  let c1_i32 : BitVec 32 := 1#32
  let arg10 : BitVec 32 := Scf.iv c0_i32_1 c1_i32 k0_t1
  let v39 : BitVec 32 := Scalar.addi v3 arg10
  let v40 : BitVec 32 := Scalar.minsi c32_i32_11 v39
  let c1_i32_12 : BitVec 32 := 1#32
  let v42 : BitVec 32 := Scalar.addi v40 c1_i32_12
  let v43 : BitVec 32 := Scalar.subi v42 c1_i32_13
  let c1_i32_14 : BitVec 32 := 1#32
  let v45 : BitVec 32 := Scalar.divsi v43 c1_i32_14
  let v46 : BitVec 32 := Scalar.muli v45 c1_i32_14
  let v47 : BitVec 32 := Scalar.addi c1_i32_13 v46
  let v44 : BitVec 32 := Scalar.addi c1_i32_13 v43
  let c1_i32_16 : BitVec 32 := 1#32
  ⟨v47, v44, c1_i32_16⟩
def k0_off5 (i : grid0.Coords) (k0_t1 : Fin k0_t1_loop.trips) (k0_t4 : Fin (k0_t4_loop i k0_t1).trips) : Fin 1 → Nat :=
  let c1_i32_13 : BitVec 32 := 1#32
  let c32_i32_11 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v3 : BitVec 32 := Scalar.muli v1 c16_i32_0
  let c0_i32_1 : BitVec 32 := 0#32
  let c1_i32 : BitVec 32 := 1#32
  let arg10 : BitVec 32 := Scf.iv c0_i32_1 c1_i32 k0_t1
  let v39 : BitVec 32 := Scalar.addi v3 arg10
  let v40 : BitVec 32 := Scalar.minsi c32_i32_11 v39
  let c1_i32_12 : BitVec 32 := 1#32
  let v42 : BitVec 32 := Scalar.addi v40 c1_i32_12
  let v43 : BitVec 32 := Scalar.subi v42 c1_i32_13
  let c1_i32_14 : BitVec 32 := 1#32
  let v45 : BitVec 32 := Scalar.divsi v43 c1_i32_14
  let v46 : BitVec 32 := Scalar.muli v45 c1_i32_14
  let v47 : BitVec 32 := Scalar.addi c1_i32_13 v46
  let c1_i32_16 : BitVec 32 := 1#32
  let arg11 : BitVec 32 := Scf.iv v47 c1_i32_16 k0_t4
  let c1_i32_24 : BitVec 32 := 1#32
  let v74 : BitVec 32 := Scalar.subi arg11 c1_i32_24
  let c16_i32_25 : BitVec 32 := 16#32
  let v75 : BitVec 32 := Scalar.muli v74 c16_i32_25
  let v76 : Index := Scalar.indexCast v75
  ![v76.toNat]
@[reducible] def k0_t5_loop : Scf.Loop 32 :=
  let c0_i32_26 : BitVec 32 := 0#32
  let c4_i32 : BitVec 32 := 4#32
  let v79 : BitVec 32 := Scalar.addi c0_i32_26 c4_i32
  let c1_i32_27 : BitVec 32 := 1#32
  ⟨c0_i32_26, v79, c1_i32_27⟩
def k0_off6 (i : grid0.Coords) (k0_t1 : Fin k0_t1_loop.trips) (k0_t4 : Fin (k0_t4_loop i k0_t1).trips) (k0_t5 : Fin k0_t5_loop.trips) : Fin 1 → Nat :=
  let c32_i32_22 : BitVec 32 := 32#32
  let c0_i32_1 : BitVec 32 := 0#32
  let c1_i32 : BitVec 32 := 1#32
  let arg10 : BitVec 32 := Scf.iv c0_i32_1 c1_i32 k0_t1
  let v71 : BitVec 32 := Scalar.addi c32_i32_22 arg10
  let c1_i32_13 : BitVec 32 := 1#32
  let c32_i32_11 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v3 : BitVec 32 := Scalar.muli v1 c16_i32_0
  let v39 : BitVec 32 := Scalar.addi v3 arg10
  let v40 : BitVec 32 := Scalar.minsi c32_i32_11 v39
  let c1_i32_12 : BitVec 32 := 1#32
  let v42 : BitVec 32 := Scalar.addi v40 c1_i32_12
  let v43 : BitVec 32 := Scalar.subi v42 c1_i32_13
  let c1_i32_14 : BitVec 32 := 1#32
  let v45 : BitVec 32 := Scalar.divsi v43 c1_i32_14
  let v46 : BitVec 32 := Scalar.muli v45 c1_i32_14
  let v47 : BitVec 32 := Scalar.addi c1_i32_13 v46
  let c1_i32_16 : BitVec 32 := 1#32
  let arg11 : BitVec 32 := Scf.iv v47 c1_i32_16 k0_t4
  let v72 : BitVec 32 := Scalar.subi v71 arg11
  let c64_i32_23 : BitVec 32 := 64#32
  let v73 : BitVec 32 := Scalar.muli v72 c64_i32_23
  let c0_i32_26 : BitVec 32 := 0#32
  let c1_i32_27 : BitVec 32 := 1#32
  let arg16 : BitVec 32 := Scf.iv c0_i32_26 c1_i32_27 k0_t5
  let c16_i32_29 : BitVec 32 := 16#32
  let v81 : BitVec 32 := Scalar.muli arg16 c16_i32_29
  let v82 : BitVec 32 := Scalar.addi v73 v81
  let v83 : Index := Scalar.indexCast v82
  ![v83.toNat]
def k0_off7 (k0_t1 : Fin k0_t1_loop.trips) (c0_i32_18 : BitVec 32) : Fin 1 → Nat :=
  let c0_i32_1 : BitVec 32 := 0#32
  let c1_i32 : BitVec 32 := 1#32
  let arg10 : BitVec 32 := Scf.iv c0_i32_1 c1_i32 k0_t1
  let c64_i32_17 : BitVec 32 := 64#32
  let v50 : BitVec 32 := Scalar.muli arg10 c64_i32_17
  let v51 : BitVec 32 := Scalar.addi v50 c0_i32_18
  let v52 : Index := Scalar.indexCast v51
  ![v52.toNat]
def k0_off8 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  ![v2.toNat]
abbrev grid1 : Pipeline.Grid := .none

abbrev stage1_0 : Fin 1 → Memref sig .tc .vmem S256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x3 : Shape := ⟨2, ![32768, 3]⟩
abbrev S1 : Shape := ⟨1, ![1]⟩
abbrev S_ : Shape := ⟨0, ![]⟩
abbrev S512x64x3 : Shape := ⟨3, ![512, 64, 3]⟩
abbrev S32x64x3 : Shape := ⟨3, ![32, 64, 3]⟩
abbrev S544x64x3 : Shape := ⟨3, ![544, 64, 3]⟩
abbrev S32x64 : Shape := ⟨2, ![32, 64]⟩
abbrev S512x64 : Shape := ⟨2, ![512, 64]⟩
abbrev S544x64 : Shape := ⟨2, ![544, 64]⟩
abbrev S512 : Shape := ⟨1, ![512]⟩
abbrev S1x64x3 : Shape := ⟨3, ![1, 64, 3]⟩
abbrev S64x3 : Shape := ⟨2, ![64, 3]⟩
abbrev S2048x3 : Shape := ⟨2, ![2048, 3]⟩
abbrev S2048 : Shape := ⟨1, ![2048]⟩
abbrev S64x2 : Shape := ⟨2, ![64, 2]⟩
abbrev S2048x1 : Shape := ⟨2, ![2048, 1]⟩
abbrev S2048x2 : Shape := ⟨2, ![2048, 2]⟩
abbrev S64x1x2 : Shape := ⟨3, ![64, 1, 2]⟩
abbrev S1x2048x2 : Shape := ⟨3, ![1, 2048, 2]⟩
abbrev S64x2048x2 : Shape := ⟨3, ![64, 2048, 2]⟩
abbrev S64x2048 : Shape := ⟨2, ![64, 2048]⟩
abbrev S64 : Shape := ⟨1, ![64]⟩
abbrev S32 : Shape := ⟨1, ![32]⟩
abbrev S33 : Shape := ⟨1, ![33]⟩
abbrev S32768x1 : Shape := ⟨2, ![32768, 1]⟩
abbrev S32768 : Shape := ⟨1, ![32768]⟩

abbrev nBuf : Space → Nat
  | .hbm => 169
  | .vmem => 0
  | .smem => 0
  | _ => 0

abbrev hbmTy0_0 (i : Nat) : BufTy := match i % 128 with
  | 0 => ⟨S32768x3, .f32⟩
  | 1 => ⟨S1, .f32⟩
  | 2 => ⟨S1, .f32⟩
  | 3 => ⟨S1, .f32⟩
  | 4 => ⟨S1, .f32⟩
  | 5 => ⟨S_, .f32⟩
  | 6 => ⟨S_, .f32⟩
  | 7 => ⟨S_, .f32⟩
  | 8 => ⟨S_, .f32⟩
  | 9 => ⟨S512x64x3, .f32⟩
  | 10 => ⟨S_, .f32⟩
  | 11 => ⟨S32x64x3, .f32⟩
  | 12 => ⟨S544x64x3, .f32⟩
  | 13 => ⟨S_, .f32⟩
  | 14 => ⟨S32x64, .f32⟩
  | 15 => ⟨S_, .f32⟩
  | 16 => ⟨S512x64, .f32⟩
  | 17 => ⟨S544x64, .f32⟩
  | 18 => ⟨S512, .i32⟩
  | 19 => ⟨S_, .i32⟩
  | 20 => ⟨S512, .i32⟩
  | 21 => ⟨S512, .i32⟩
  | 22 => ⟨S_, .f32⟩
  | 23 => ⟨S512, .f32⟩
  | 24 => ⟨S_, .i32⟩
  | 25 => ⟨S512, .i32⟩
  | 26 => ⟨S512x64x3, .f32⟩
  | 27 => ⟨S544x64x3, .f32⟩
  | 28 => ⟨S544x64, .f32⟩
  | 29 => ⟨S_, .f32⟩
  | 30 => ⟨S_, .f32⟩
  | 31 => ⟨S_, .f32⟩
  | 32 => ⟨S_, .f32⟩
  | 33 => ⟨S_, .i32⟩
  | 34 => ⟨S512, .f32⟩
  | 35 => ⟨S_, .i32⟩
  | 36 => ⟨S_, .i1⟩
  | 37 => ⟨S1, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S1x64x3, .f32⟩
  | 49 => ⟨S64x3, .f32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S32x64x3, .f32⟩
  | 60 => ⟨S2048x3, .f32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S32x64, .f32⟩
  | 70 => ⟨S2048, .f32⟩
  | 71 => ⟨S64x2, .f32⟩
  | 72 => ⟨S2048x1, .f32⟩
  | 73 => ⟨S2048, .f32⟩
  | 74 => ⟨S2048x2, .f32⟩
  | 75 => ⟨S_, .f32⟩
  | 76 => ⟨S2048, .f32⟩
  | 77 => ⟨S2048, .f32⟩
  | 78 => ⟨S_, .f32⟩
  | 79 => ⟨S_, .f32⟩
  | 80 => ⟨S2048, .f32⟩
  | 81 => ⟨S2048, .f32⟩
  | 82 => ⟨S2048, .f32⟩
  | 83 => ⟨S2048, .f32⟩
  | 84 => ⟨S2048, .f32⟩
  | 85 => ⟨S2048, .f32⟩
  | 86 => ⟨S64x1x2, .f32⟩
  | 87 => ⟨S1x2048x2, .f32⟩
  | 88 => ⟨S64x2048x2, .f32⟩
  | 89 => ⟨S64x2048x2, .f32⟩
  | 90 => ⟨S64x2048x2, .f32⟩
  | 91 => ⟨S64x2048x2, .f32⟩
  | 92 => ⟨S_, .f32⟩
  | 93 => ⟨S64x2048, .f32⟩
  | 94 => ⟨S64x2048, .f32⟩
  | 95 => ⟨S_, .f32⟩
  | 96 => ⟨S_, .f32⟩
  | 97 => ⟨S_, .f32⟩
  | 98 => ⟨S64x2048, .f32⟩
  | 99 => ⟨S64x2048, .f32⟩
  | 100 => ⟨S64x2048, .f32⟩
  | 101 => ⟨S_, .f32⟩
  | 102 => ⟨S_, .f32⟩
  | 103 => ⟨S_, .f32⟩
  | 104 => ⟨S64x2048, .f32⟩
  | 105 => ⟨S64x2048, .f32⟩
  | 106 => ⟨S64, .f32⟩
  | 107 => ⟨S64, .f32⟩
  | 108 => ⟨S64, .f32⟩
  | 109 => ⟨S_, .f32⟩
  | 110 => ⟨S64, .f32⟩
  | 111 => ⟨S64, .f32⟩
  | 112 => ⟨S64, .f32⟩
  | 113 => ⟨S_, .f32⟩
  | 114 => ⟨S_, .f32⟩
  | 115 => ⟨S1, .f32⟩
  | 116 => ⟨S512, .f32⟩
  | 117 => ⟨S_, .i32⟩
  | 118 => ⟨S_, .i32⟩
  | 119 => ⟨S_, .f32⟩
  | 120 => ⟨S_, .f32⟩
  | 121 => ⟨S_, .f32⟩
  | 122 => ⟨S_, .f32⟩
  | 123 => ⟨S32, .f32⟩
  | 124 => ⟨S_, .f32⟩
  | 125 => ⟨S32, .f32⟩
  | 126 => ⟨S32, .f32⟩
  | 127 => ⟨S32, .f32⟩
  | _ => ⟨S32768x3, .f32⟩

abbrev hbmTy0_1 (i : Nat) : BufTy := match i % 128 with
  | 0 => ⟨S32, .f32⟩
  | 1 => ⟨S32, .f32⟩
  | 2 => ⟨S32, .f32⟩
  | 3 => ⟨S32, .f32⟩
  | 4 => ⟨S_, .f32⟩
  | 5 => ⟨S1, .f32⟩
  | 6 => ⟨S_, .f32⟩
  | 7 => ⟨S_, .f32⟩
  | 8 => ⟨S32, .f32⟩
  | 9 => ⟨S33, .f32⟩
  | 10 => ⟨S32768x1, .f32⟩
  | 11 => ⟨S32768, .f32⟩
  | 12 => ⟨S32768, .i32⟩
  | 13 => ⟨S_, .i32⟩
  | 14 => ⟨S32768, .i32⟩
  | 15 => ⟨S32768, .i32⟩
  | 16 => ⟨S_, .i32⟩
  | 17 => ⟨S_, .i32⟩
  | 18 => ⟨S_, .i32⟩
  | 19 => ⟨S32768, .i32⟩
  | 20 => ⟨S32768, .i32⟩
  | 21 => ⟨S_, .i32⟩
  | 22 => ⟨S32768, .i32⟩
  | 23 => ⟨S32768, .i32⟩
  | 24 => ⟨S_, .i32⟩
  | 25 => ⟨S32768, .i32⟩
  | 26 => ⟨S32768, .i1⟩
  | 27 => ⟨S_, .i32⟩
  | 28 => ⟨S32768, .i32⟩
  | 29 => ⟨S32768, .i32⟩
  | 30 => ⟨S32768, .i32⟩
  | 31 => ⟨S32768x1, .i32⟩
  | 32 => ⟨S32768, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_c_3 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev main_v14_8 : Ref sig .tc := ⟨.hbm, 33, rfl⟩
abbrev main_v14_9 : Ref sig .tc := ⟨.hbm, 34, rfl⟩
abbrev main_while0c_c_24 : Ref sig .tc := ⟨.hbm, 35, rfl⟩
abbrev main_while0c_v47 : Ref sig .tc := ⟨.hbm, 36, rfl⟩
abbrev main_while0b_call0_v0 : Ref sig .tc := ⟨.hbm, 37, rfl⟩
abbrev main_while0b_v47 : Ref sig .tc := ⟨.hbm, 38, rfl⟩
abbrev main_while0b_c_24 : Ref sig .tc := ⟨.hbm, 39, rfl⟩
abbrev main_while0b_v48 : Ref sig .tc := ⟨.hbm, 40, rfl⟩
abbrev main_while0b_c_25 : Ref sig .tc := ⟨.hbm, 41, rfl⟩
abbrev main_while0b_v49 : Ref sig .tc := ⟨.hbm, 42, rfl⟩
abbrev main_while0b_c_26 : Ref sig .tc := ⟨.hbm, 43, rfl⟩
abbrev main_while0b_v50 : Ref sig .tc := ⟨.hbm, 44, rfl⟩
abbrev main_while0b_v51 : Ref sig .tc := ⟨.hbm, 45, rfl⟩
abbrev main_while0b_c_27 : Ref sig .tc := ⟨.hbm, 46, rfl⟩
abbrev main_while0b_c_28 : Ref sig .tc := ⟨.hbm, 47, rfl⟩
abbrev main_while0b_v52 : Ref sig .tc := ⟨.hbm, 48, rfl⟩
abbrev main_while0b_v53 : Ref sig .tc := ⟨.hbm, 49, rfl⟩
abbrev main_while0b_c_29 : Ref sig .tc := ⟨.hbm, 50, rfl⟩
abbrev main_while0b_v54 : Ref sig .tc := ⟨.hbm, 51, rfl⟩
abbrev main_while0b_c_30 : Ref sig .tc := ⟨.hbm, 52, rfl⟩
abbrev main_while0b_v55 : Ref sig .tc := ⟨.hbm, 53, rfl⟩
abbrev main_while0b_c_31 : Ref sig .tc := ⟨.hbm, 54, rfl⟩
abbrev main_while0b_v56 : Ref sig .tc := ⟨.hbm, 55, rfl⟩
abbrev main_while0b_v57 : Ref sig .tc := ⟨.hbm, 56, rfl⟩
abbrev main_while0b_c_32 : Ref sig .tc := ⟨.hbm, 57, rfl⟩
abbrev main_while0b_c_33 : Ref sig .tc := ⟨.hbm, 58, rfl⟩
abbrev main_while0b_v58 : Ref sig .tc := ⟨.hbm, 59, rfl⟩
abbrev main_while0b_v59 : Ref sig .tc := ⟨.hbm, 60, rfl⟩
abbrev main_while0b_c_34 : Ref sig .tc := ⟨.hbm, 61, rfl⟩
abbrev main_while0b_v60 : Ref sig .tc := ⟨.hbm, 62, rfl⟩
abbrev main_while0b_c_35 : Ref sig .tc := ⟨.hbm, 63, rfl⟩
abbrev main_while0b_v61 : Ref sig .tc := ⟨.hbm, 64, rfl⟩
abbrev main_while0b_c_36 : Ref sig .tc := ⟨.hbm, 65, rfl⟩
abbrev main_while0b_v62 : Ref sig .tc := ⟨.hbm, 66, rfl⟩
abbrev main_while0b_v63 : Ref sig .tc := ⟨.hbm, 67, rfl⟩
abbrev main_while0b_c_37 : Ref sig .tc := ⟨.hbm, 68, rfl⟩
abbrev main_while0b_v64 : Ref sig .tc := ⟨.hbm, 69, rfl⟩
abbrev main_while0b_v65 : Ref sig .tc := ⟨.hbm, 70, rfl⟩
abbrev main_while0b_v66 : Ref sig .tc := ⟨.hbm, 71, rfl⟩
abbrev main_while0b_v67 : Ref sig .tc := ⟨.hbm, 72, rfl⟩
abbrev main_while0b_v68 : Ref sig .tc := ⟨.hbm, 73, rfl⟩
abbrev main_while0b_v69 : Ref sig .tc := ⟨.hbm, 74, rfl⟩
abbrev main_while0b_v70 : Ref sig .tc := ⟨.hbm, 75, rfl⟩
abbrev main_while0b_v71 : Ref sig .tc := ⟨.hbm, 76, rfl⟩
abbrev main_while0b_v72 : Ref sig .tc := ⟨.hbm, 77, rfl⟩
abbrev main_while0b_v73 : Ref sig .tc := ⟨.hbm, 78, rfl⟩
abbrev main_while0b_v74 : Ref sig .tc := ⟨.hbm, 79, rfl⟩
abbrev main_while0b_v75 : Ref sig .tc := ⟨.hbm, 80, rfl⟩
abbrev main_while0b_v76 : Ref sig .tc := ⟨.hbm, 81, rfl⟩
abbrev main_while0b_v77 : Ref sig .tc := ⟨.hbm, 82, rfl⟩
abbrev main_while0b_v78 : Ref sig .tc := ⟨.hbm, 83, rfl⟩
abbrev main_while0b_v79 : Ref sig .tc := ⟨.hbm, 84, rfl⟩
abbrev main_while0b_v80 : Ref sig .tc := ⟨.hbm, 85, rfl⟩
abbrev main_while0b_v81 : Ref sig .tc := ⟨.hbm, 86, rfl⟩
abbrev main_while0b_v82 : Ref sig .tc := ⟨.hbm, 87, rfl⟩
abbrev main_while0b_v83 : Ref sig .tc := ⟨.hbm, 88, rfl⟩
abbrev main_while0b_v84 : Ref sig .tc := ⟨.hbm, 89, rfl⟩
abbrev main_while0b_v85 : Ref sig .tc := ⟨.hbm, 90, rfl⟩
abbrev main_while0b_v86 : Ref sig .tc := ⟨.hbm, 91, rfl⟩
abbrev main_while0b_cst_38 : Ref sig .tc := ⟨.hbm, 92, rfl⟩
abbrev main_while0b_v87 : Ref sig .tc := ⟨.hbm, 93, rfl⟩
abbrev main_while0b_v88 : Ref sig .tc := ⟨.hbm, 94, rfl⟩
abbrev main_while0b_cst_39 : Ref sig .tc := ⟨.hbm, 95, rfl⟩
abbrev main_while0b_v89 : Ref sig .tc := ⟨.hbm, 96, rfl⟩
abbrev main_while0b_v90 : Ref sig .tc := ⟨.hbm, 97, rfl⟩
abbrev main_while0b_v91 : Ref sig .tc := ⟨.hbm, 98, rfl⟩
abbrev main_while0b_v92 : Ref sig .tc := ⟨.hbm, 99, rfl⟩
abbrev main_while0b_v93 : Ref sig .tc := ⟨.hbm, 100, rfl⟩
abbrev main_while0b_cst_40 : Ref sig .tc := ⟨.hbm, 101, rfl⟩
abbrev main_while0b_v94 : Ref sig .tc := ⟨.hbm, 102, rfl⟩
abbrev main_while0b_v95 : Ref sig .tc := ⟨.hbm, 103, rfl⟩
abbrev main_while0b_v96 : Ref sig .tc := ⟨.hbm, 104, rfl⟩
abbrev main_while0b_v97 : Ref sig .tc := ⟨.hbm, 105, rfl⟩
abbrev main_while0b_v98 : Ref sig .tc := ⟨.hbm, 106, rfl⟩
abbrev main_while0b_v99 : Ref sig .tc := ⟨.hbm, 107, rfl⟩
abbrev main_while0b_v100 : Ref sig .tc := ⟨.hbm, 108, rfl⟩
abbrev main_while0b_cst_41 : Ref sig .tc := ⟨.hbm, 109, rfl⟩
abbrev main_while0b_v101 : Ref sig .tc := ⟨.hbm, 110, rfl⟩
abbrev main_while0b_v102 : Ref sig .tc := ⟨.hbm, 111, rfl⟩
abbrev main_while0b_v103 : Ref sig .tc := ⟨.hbm, 112, rfl⟩
abbrev main_while0b_cst_42 : Ref sig .tc := ⟨.hbm, 113, rfl⟩
abbrev main_while0b_v104 : Ref sig .tc := ⟨.hbm, 114, rfl⟩
abbrev main_while0b_call1_v0 : Ref sig .tc := ⟨.hbm, 115, rfl⟩
abbrev main_while0b_v105 : Ref sig .tc := ⟨.hbm, 116, rfl⟩
abbrev main_while0b_c_43 : Ref sig .tc := ⟨.hbm, 117, rfl⟩
abbrev main_while0b_v106 : Ref sig .tc := ⟨.hbm, 118, rfl⟩
abbrev main_cst_4 : Ref sig .tc := ⟨.hbm, 119, rfl⟩
abbrev main_v15 : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_cst_5 : Ref sig .tc := ⟨.hbm, 124, rfl⟩
abbrev main_v19 : Ref sig .tc := ⟨.hbm, 125, rfl⟩
abbrev main_v20 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_cst_6 : Ref sig .tc := ⟨.hbm, 132, rfl⟩
abbrev main_v26 : Ref sig .tc := ⟨.hbm, 133, rfl⟩
abbrev main_call2_call0_cst : Ref sig .tc := ⟨.hbm, 134, rfl⟩
abbrev main_call2_call0_v0 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_c_7 : Ref sig .tc := ⟨.hbm, 141, rfl⟩
abbrev main_v32 : Ref sig .tc := ⟨.hbm, 142, rfl⟩
abbrev main_v33 : Ref sig .tc := ⟨.hbm, 143, rfl⟩
abbrev main_c_8 : Ref sig .tc := ⟨.hbm, 144, rfl⟩
abbrev main_c_9 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_v34 : Ref sig .tc := ⟨.hbm, 151, rfl⟩
abbrev main_c_10 : Ref sig .tc := ⟨.hbm, 152, rfl⟩
abbrev main_v35 : Ref sig .tc := ⟨.hbm, 153, rfl⟩
abbrev main_v36 : Ref sig .tc := ⟨.hbm, 154, rfl⟩
abbrev main_c_11 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_cst_12 : Ref sig .tc := ⟨.hbm, 161, rfl⟩
abbrev main_v42 : Ref sig .tc := ⟨.hbm, 162, rfl⟩
abbrev main_cst_13 : Ref sig .tc := ⟨.hbm, 163, rfl⟩
abbrev main_v43 : Ref sig .tc := ⟨.hbm, 164, rfl⟩
abbrev main_cst_14 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩

abbrev nD : Nat := 1
abbrev τ : Topo := Topo.v7x

variable {F : FTy → Type} [FloatOps F]

abbrev main_while0_count : Scf.Loop 32 := ⟨0#32, 512#32, 1#32⟩
-- ==== Proof.PI.Common.lean ====
/-
  The kernel's program as the launch theorem sees it: its labels, its SparseCore configuration, the resource algebra
  (the launch's rounds beside the transfers' counters), the memrefs a tile's body is called with, and what one trip of
  the innermost loop does to an accumulator, as a function.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels: the SparseCore kernel's, and those of the one TensorCore call. -/
abbrev ΛP : Labels := Pipeline.Sig Λ₀ (Fin 1) fun p => (pcfgs (F := F) p).Adm
/-- The SparseCore configuration. -/
abbrev K : SparseCore.Cfg τ sig (ΛP (F := F)) 1 := sc (F := F)
/-- The call runs on sixteen subcores of each SparseCore. -/
theorem nSub_zero : (K (F := F)).nSub 0 = 16 := rfl
/-- And on two SparseCores. -/
theorem nCore_zero : (K (F := F)).nCore 0 = 2 := rfl
/-- The definitions the TensorCore's program is run against. -/
abbrev D [FloatOps F] : Defs nD τ sig (Elt F) (ΛP (F := F)) := Pipeline.defs pcfgs defs₀
/-- No loop is proved by a variant. -/
abbrev 𝒱₀ : Variants := Variants.none
/-- The same, among the launch's labels. -/
abbrev 𝒱 : Variants := 𝒱₀.lift
/-- The variant's value, where none is counted. -/
abbrev v₀ : 𝒱.V := Sum.inl none

/-- The launch's semaphores are distinct, unscoped, and no shared buffer is a SparseCore's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch's handshakes. -/
abbrev UH : Type := URounds (GSem nD τ sig) ℕ
/-- The TensorCore call's staging cells. -/
abbrev UP : Type := UR sig nD τ
/-- The two, and beside them the transfers' counters. -/
abbrev UU : Type := UH × (UP × Counters)

local notation "𝕄" => MT nD τ sig (HIx 1) (Elt F) ℕ UU ℕ

/-- The handshakes are the left factor. -/
abbrev EH : Emb UH (MT nD τ sig (HIx 1) (Elt F) ℕ UU ℕ) := embL
/-- The staging cells' are the middle one. -/
def EP : Emb UP (MT nD τ sig (HIx 1) (Elt F) ℕ UU ℕ) := (Emb.inl : Emb UP (UP × Counters)).trans embR
/-- The staging cells' ghost state is part of the launch's. -/
instance EP_landsIn : (EP : Emb UP 𝕄).LandsIn (upEmb : UEmb _ 𝕄) := by unfold EP; infer_instance

/-! ## The memrefs of a tile's body -/

/-- The padded scaled abscissas, ordinates, the weights and the sums, in the shared memory. -/
abbrev xpV : Memref sig .scVector .hbm S34816 .f32 := Memref.whole main_v19_scv
/-- The ordinates. -/
abbrev ypV : Memref sig .scVector .hbm S34816 .f32 := Memref.whole main_v20_scv
/-- The weights. -/
abbrev wsV : Memref sig .scVector .hbm S512 .f32 := Memref.whole main_v37_scv
/-- The sums. -/
abbrev outV : Memref sig .scVector .hbm S32768 .f32 := Memref.whole main_v38_scv
/-- A tile's own copies of them. -/
abbrev xB : Memref sig .scVector .vmem S3072 .f32 := Memref.whole cc0_scratch0
/-- Its ordinates. -/
abbrev yB : Memref sig .scVector .vmem S3072 .f32 := Memref.whole cc0_scratch1
/-- Its weights. -/
abbrev wB : Memref sig .scVector .vmem S512 .f32 := Memref.whole cc0_scratch2
/-- Its sums. -/
abbrev oB : Memref sig .scVector .vmem S1024 .f32 := Memref.whole cc0_scratch3

/-- The SparseCore and the tile a body's coordinates name. -/
abbrev cV (L : grid0.Coords) : Fin τ.nSC := (L 0).castLE hcore0
/-- The tile's index in its SparseCore. -/
abbrev jV (L : grid0.Coords) : Fin τ.nSub := (L 1).castLE hsub0
/-- The tile's thread. -/
abbrev thrV (d : Dev nD) (L : grid0.Coords) : Thread nD τ := V d (cV L) (jV L)

end Cert.Proof.PI

end
-- ==== Proof.PI.Trip.lean ====
module

public import proofs.«01_k».proof.Proof.PI.Common

@[expose] public section

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The functions -/

/-- The index `k` of an array of `n` elements (`k` modulo `n`, so that it is total). -/
def ix (n : ℕ) [NeZero n] (k : ℕ) : (⟨1, ![n]⟩ : Shape).Idx :=
  fun a => ⟨k % n, by fin_cases a; exact Nat.mod_lt _ (Nat.pos_of_ne_zero (NeZero.ne n))⟩

/-- The sixteen elements from `o` on. -/
def ld {α : Type} (n : ℕ) [NeZero n] (X : (⟨1, ![n]⟩ : Shape).Idx → α) (o : ℕ) : S16.Idx → α := fun j => X (ix n (o + (j 0).val))

/-- Element `k` of a register, as the kernel extracts it. -/
def lane (x : FVec F S16 .f32) (k : ℕ) (h : S16.Slices ![k] S1) : F .f32 := extractAt ![0] (extractStridedSlice S1 ![k] x h) inpos_S1_p0

/-- One summand: `w * exp(0 - ((cx - x)² + (cy - y)²))`, lane by lane. -/
def term (cx cy w : FVec F S16 .f32) (x y : F .f32) : FVec F S16 .f32 :=
  mulf w (exp (subf (broadcast S16 (Scalar.ofBits .f32 0x00000000#32))
    (addf (mulf (subf cx (broadcast S16 x)) (subf cx (broadcast S16 x))) (mulf (subf cy (broadcast S16 y)) (subf cy (broadcast S16 y))))))

/-- An accumulator with the summand of lane `k` added. -/
def acc1 (cx cy w xc yc a : FVec F S16 .f32) (k : ℕ) (h : S16.Slices ![k] S1) : FVec F S16 .f32 :=
  addf a (term cx cy w (lane xc k h) (lane yc k h))

/-- An accumulator with the summands of the sixteen lanes added, one after another. -/
def acc16 (cx cy w xc yc a : FVec F S16 .f32) : FVec F S16 .f32 :=
  let s := acc1 cx cy w xc yc
  s (s (s (s (s (s (s (s (s (s (s (s (s (s (s (s a 0 slices_S16_o0_S1) 1 slices_S16_o1_S1) 2 slices_S16_o2_S1) 3 slices_S16_o3_S1)
    4 slices_S16_o4_S1) 5 slices_S16_o5_S1) 6 slices_S16_o6_S1) 7 slices_S16_o7_S1) 8 slices_S16_o8_S1) 9 slices_S16_o9_S1)
    10 slices_S16_o10_S1) 11 slices_S16_o11_S1) 12 slices_S16_o12_S1) 13 slices_S16_o13_S1) 14 slices_S16_o14_S1) 15 slices_S16_o15_S1

variable (d : Dev nD) (L : grid0.Coords)

omit [FloatOps F] in
/-- A load of sixteen elements of a tile's buffer at a closed offset. -/
theorem readAt_ld {n : ℕ} [NeZero n] {sp : Space} (v : View sig .scVector sp (⟨1, ![n]⟩ : Shape) .f32) (f : v.ty.Contents (Elt F))
    (off : Fin 1 → ℕ) (inb : ∀ a, off a + S16.size a ≤ (⟨1, ![n]⟩ : Shape).size a) (o : ℕ) (h : off = ![o]) :
    v.readAt (Elt F) (Rect.unit (s := ⟨1, ![n]⟩) off S16.size inb).toLoadRect f = ld n (v.read (Elt F) f) o := by
  subst h
  funext j
  refine congrArg (v.read (Elt F) f) (funext fun a => Fin.ext ?_)
  have h0 : o + 16 ≤ n := inb 0
  have h1 : (j 0).val < 16 := (j 0).isLt
  match a with
  | 0 =>
    refine (Rect.emb_apply _ _ _).trans ?_
    show o + 1 * (j 0).val = (o + (j 0).val) % n
    rw [Nat.mod_eq_of_lt (by omega), Nat.one_mul]

/-- The four accumulators side by side, each a fold of the same steps at its own points. -/
abbrev Quad : Type := FVec F S16 .f32 × FVec F S16 .f32 × FVec F S16 .f32 × FVec F S16 .f32

/-- An accumulator after the first `n` registers of one day: the register `j` begins at `b + 16 j`. -/
def accJ (cx cy w : FVec F S16 .f32) (X Y : S3072.Idx → F .f32) (b : ℕ) (a : FVec F S16 .f32) : ℕ → FVec F S16 .f32
  | 0 => a
  | n + 1 => acc16 cx cy w (ld 3072 X (b + 16 * n)) (ld 3072 Y (b + 16 * n)) (accJ cx cy w X Y b a n)

/-- An accumulator after the first `n` days back: the day `k + 1` back begins at `b - 64 k` and is weighed by the register
    `k` of `W`. -/
def accK (cx cy : FVec F S16 .f32) (W : S512.Idx → F .f32) (X Y : S3072.Idx → F .f32) (b : ℕ) (a : FVec F S16 .f32) : ℕ → FVec F S16 .f32
  | 0 => a
  | n + 1 => accJ cx cy (ld 512 W (16 * n)) X Y (b - 64 * n) (accK cx cy W X Y b a n) 4

/-- The invariant of the loop over a day's registers: the four accumulators are the folds so far, the two buffers are held. -/
def inv3 (fx : Buf (Elt F) ((xB).view.loc (thrV d L))) (fy : Buf (Elt F) ((yB).view.loc (thrV d L))) (w : FVec F S16 .f32)
    (cx0 cx1 cx2 cx3 cy0 cy1 cy2 cy3 : FVec F S16 .f32) (b : ℕ) (a : Quad (F := F)) (n : ℕ) (acc : Quad (F := F)) : sProp 𝕄 :=
  iprop(⌜acc = (accJ cx0 cy0 w fx fy b a.1 n, accJ cx1 cy1 w fx fy b a.2.1 n, accJ cx2 cy2 w fx fy b a.2.2.1 n, accJ cx3 cy3 w fx fy b a.2.2.2 n)⌝
    ∗ ((xB).view.loc (thrV d L) ↦{fullShare} fx) ∗ ((yB).view.loc (thrV d L) ↦{fullShare} fy))

/-- One trip of the loop over a day's registers: two loads, and the sixteen lanes' summands into each accumulator. -/
theorem trip3 (fx : Buf (Elt F) ((xB).view.loc (thrV d L))) (fy : Buf (Elt F) ((yB).view.loc (thrV d L)))
    (t1 : Fin k0_t1_loop.trips) (t2 : Fin (k0_t2_loop L t1).trips) (t3 : Fin k0_t3_loop.trips)
    (v73 : BitVec 32) (w : Vec F S16 .f32) (cx0 cx1 cx2 cx3 cy0 cy1 cy2 cy3 : FVec F S16 .f32) (a acc : Quad (F := F)) (b : ℕ)
    (hb : b = 64 * t1.val + 1984 - 64 * t2.val) :
    inv3 d L fx fy w cx0 cx1 cx2 cx3 cy0 cy1 cy2 cy3 b a t3.val acc
      ⊢ wp frame (wpE (defs₀ (F := F)) 𝒱₀ (thrV d L) none) Set.univ
          (k0_t3_body L xpV (Memref.isWhole_whole _) ypV (Memref.isWhole_whole _) wsV (Memref.isWhole_whole _) outV (Memref.isWhole_whole _)
            xB (Memref.isWhole_whole _) yB (Memref.isWhole_whole _) wB (Memref.isWhole_whole _) oB (Memref.isWhole_whole _)
            cc0_scoped0 cc0_scoped1 cc0_scoped2 cc0_scoped3 t1 cx0 cx1 cx2 cx3 cy0 cy1 cy2 cy3 t2 v73 w t3 acc)
          (inv3 d L fx fy w cx0 cx1 cx2 cx3 cy0 cy1 cy2 cy3 b a (t3.val + 1)) := by
  obtain ⟨a0, a1, a2, a3⟩ := acc
  unfold k0_t3_body inv3
  iintro ⟨%hacc, Hx, Hy⟩
  obtain ⟨h0, h1, h2, h3⟩ : a0 = _ ∧ a1 = _ ∧ a2 = _ ∧ a3 = _ := by simpa only [Prod.mk.injEq] using hacc
  sl_exec
  sl_step
  have ht2 : t2.val < 32 := Nat.lt_of_lt_of_le t2.isLt (k0_t2_abs L t1).2.1
  have ho : ![64 * t1.val + 16 * t3.val + 1984 - 64 * t2.val] = ![b + 16 * t3.val] := by rw [hb]; congr 1; omega
  isplitr
  · ipureintro
    have hx : trip3.sl.r d L fx t1 t2 t3 = ld 3072 fx (b + 16 * t3.val) := by
      unfold trip3.sl.r k0_pay13
      rw [shapeCast_self]
      exact readAt_ld (View.whole cc0_scratch0) fx _ _ _ ((k0_off4_eq L t1 t2 t3).trans ho)
    have hy : trip3.sl.r_1 d L fy t1 t2 t3 = ld 3072 fy (b + 16 * t3.val) := by
      unfold trip3.sl.r_1 k0_pay14
      rw [shapeCast_self]
      exact readAt_ld (View.whole cc0_scratch1) fy _ _ _ ((k0_off4_eq L t1 t2 t3).trans ho)
    have hw : k0_pay1 w = w := shapeCast_self _ _
    simp only [accJ]
    rw [← hx, ← hy, ← h0, ← h1, ← h2, ← h3]
    exact (show _ = (acc16 cx0 cy0 (k0_pay1 w) _ _ _, acc16 cx1 cy1 (k0_pay1 w) _ _ _, acc16 cx2 cy2 (k0_pay1 w) _ _ _, acc16 cx3 cy3 (k0_pay1 w) _ _ _)
      from rfl).trans (by rw [hw]; rfl)
  isplitl [Hx]; · iexact Hx
  iexact Hy

/-- The invariant of the loop over days back: the four accumulators are the folds so far, the three buffers are held. -/
def inv2 (fx : Buf (Elt F) ((xB).view.loc (thrV d L))) (fy : Buf (Elt F) ((yB).view.loc (thrV d L))) (fw : Buf (Elt F) ((wB).view.loc (thrV d L)))
    (cx0 cx1 cx2 cx3 cy0 cy1 cy2 cy3 : FVec F S16 .f32) (b : ℕ) (a : FVec F S16 .f32) (n : ℕ) (acc : Quad (F := F)) : sProp 𝕄 :=
  iprop(⌜acc = (accK cx0 cy0 fw fx fy b a n, accK cx1 cy1 fw fx fy b a n, accK cx2 cy2 fw fx fy b a n, accK cx3 cy3 fw fx fy b a n)⌝
    ∗ ((xB).view.loc (thrV d L) ↦{fullShare} fx) ∗ ((yB).view.loc (thrV d L) ↦{fullShare} fy) ∗ ((wB).view.loc (thrV d L) ↦{fullShare} fw))

/-- One trip of the loop over days back: the weight's load, and the loop over the day's four registers. -/
theorem trip2 (fx : Buf (Elt F) ((xB).view.loc (thrV d L))) (fy : Buf (Elt F) ((yB).view.loc (thrV d L))) (fw : Buf (Elt F) ((wB).view.loc (thrV d L)))
    (t1 : Fin k0_t1_loop.trips) (t2 : Fin (k0_t2_loop L t1).trips)
    (v10 : BitVec 32) (cx0 cx1 cx2 cx3 cy0 cy1 cy2 cy3 a : FVec F S16 .f32) (acc : Quad (F := F)) :
    inv2 d L fx fy fw cx0 cx1 cx2 cx3 cy0 cy1 cy2 cy3 (64 * t1.val + 1984) a t2.val acc
      ⊢ wp frame (wpE (defs₀ (F := F)) 𝒱₀ (thrV d L) none) Set.univ
          (k0_t2_body L xpV (Memref.isWhole_whole _) ypV (Memref.isWhole_whole _) wsV (Memref.isWhole_whole _) outV (Memref.isWhole_whole _)
            xB (Memref.isWhole_whole _) yB (Memref.isWhole_whole _) wB (Memref.isWhole_whole _) oB (Memref.isWhole_whole _)
            cc0_scoped0 cc0_scoped1 cc0_scoped2 cc0_scoped3 t1 v10 cx0 cx1 cx2 cx3 cy0 cy1 cy2 cy3 1#32 1#32 t2 acc)
          (inv2 d L fx fy fw cx0 cx1 cx2 cx3 cy0 cy1 cy2 cy3 (64 * t1.val + 1984) a (t2.val + 1)) := by
  obtain ⟨a0, a1, a2, a3⟩ := acc
  unfold k0_t2_body inv2
  iintro ⟨%hacc, Hx, Hy, Hw⟩
  sl_exec
  sl_for (inv3 d L fx fy (ld 512 fw (16 * t2.val)) cx0 cx1 cx2 cx3 cy0 cy1 cy2 cy3 (64 * t1.val + 1984 - 64 * t2.val) (a0, a1, a2, a3)) $$ [Hx Hy]
  case region =>
    intro k acc
    have hw : View.readAt (Elt F) wB.view (Rect.unit (s := S512) (k0_off3 L t1 t2) S16.size (k0_off3_inb L t1 t2)).toLoadRect fw = ld 512 fw (16 * t2.val) :=
      readAt_ld (View.whole cc0_scratch2) fw _ _ _ (k0_off3_eq L t1 t2)
    unfold trip2.sl.prog.body_1
    rw [hw]
    exact trip3 d L fx fy t1 t2 k _ _ cx0 cx1 cx2 cx3 cy0 cy1 cy2 cy3 _ acc _ rfl
  · unfold inv3
    isplitr; · ipureintro; rfl
    isplitl [Hx]; · iexact Hx
    iexact Hy
  unfold inv3
  iintro %acc ⟨%hacc', Hx, Hy⟩
  subst hacc'
  sl_exec
  sl_step
  isplitr
  · ipureintro
    obtain ⟨h0, h1, h2, h3⟩ : a0 = _ ∧ a1 = _ ∧ a2 = _ ∧ a3 = _ := by simpa only [Prod.mk.injEq] using hacc
    subst h0 h1 h2 h3; rfl
  isplitl [Hx]; · iexact Hx
  isplitl [Hy]; · iexact Hy
  iexact Hw

/-! ## One day's trip -/

/-- How many days back the day `t` of the tile `w` reaches. -/
def back (w t : ℕ) : ℕ := min 32 (16 * w + t)

/-- The number a tile is given, over both SparseCores. -/
abbrev tileNo : ℕ := 16 * (L 0).val + (L 1).val

omit [FloatOps F] in
/-- The loop over days back has as many trips as there are days back. -/
theorem trips2 (t1 : Fin k0_t1_loop.trips) : (k0_t2_loop L t1).trips = back (tileNo L) t1.val := by
  revert L t1
  decide +kernel

/-- What the register `q` of the day `t` ends at: the fold over the days back, from zero. -/
def dayReg (W : S512.Idx → F .f32) (X Y : S3072.Idx → F .f32) (w t q : ℕ) : FVec F S16 .f32 :=
  accK (ld 3072 X (64 * t + 16 * q + 2048)) (ld 3072 Y (64 * t + 16 * q + 2048)) W X Y (64 * t + 1984)
    (broadcast S16 (Scalar.ofBits .f32 0x00000000#32)) (back w t)

/-- What the element `e` of a tile's result ends at: lane `e % 16` of register `e / 16 % 4` of day `e / 64`. -/
def tileVal (W : S512.Idx → F .f32) (X Y : S3072.Idx → F .f32) (w : ℕ) : S1024.Idx → F .f32 := fun e =>
  dayReg W X Y w ((e 0).val / 64) ((e 0).val % 64 / 16) (ix 16 ((e 0).val % 16))

/-- The invariant of the loop over a tile's days: the result's elements of the days done hold their values, the four
    buffers are held. -/
def inv1 (fx : Buf (Elt F) ((xB).view.loc (thrV d L))) (fy : Buf (Elt F) ((yB).view.loc (thrV d L))) (fw : Buf (Elt F) ((wB).view.loc (thrV d L)))
    (n : ℕ) (_ : Unit) : sProp 𝕄 :=
  iprop(((xB).view.loc (thrV d L) ↦{fullShare} fx) ∗ ((yB).view.loc (thrV d L) ↦{fullShare} fy) ∗ ((wB).view.loc (thrV d L) ↦{fullShare} fw)
    ∗ ∃ fo, ⌜∀ e : S1024.Idx, (e 0).val < 64 * n → fo e = tileVal fw fx fy (tileNo L) e⌝ ∗ ((oB).view.loc (thrV d L) ↦{fullShare} fo))

/-- A register stored at its place in the day agrees with the tile's result. -/
theorem piece_val (fx fy : S3072.Idx → F .f32) (fw : S512.Idx → F .f32) (w t q : ℕ) (hq : q < 4) (off : Fin 1 → ℕ)
    (inb : ∀ a, off a + S16.size a ≤ S1024.size a) (h : off = ![64 * t + 16 * q]) (p : FVec F S16 .f32) (hp : p = dayReg fw fx fy w t q)
    (x : (Rect.unit (s := S1024) off S16.size inb).shape.Idx) :
    p x = tileVal fw fx fy w ((Rect.unit (s := S1024) off S16.size inb).emb x) := by
  subst h hp
  have hx : (x 0).val < 16 := (x 0).isLt
  have he : ((Rect.unit (s := S1024) ![64 * t + 16 * q] S16.size inb).emb x 0).val = 64 * t + 16 * q + (x 0).val := by
    refine (Rect.emb_apply _ _ _).trans ?_
    show 64 * t + 16 * q + 1 * (x 0).val = _
    rw [Nat.one_mul]
  unfold tileVal
  rw [he, show (64 * t + 16 * q + (x 0).val) / 64 = t by omega, show (64 * t + 16 * q + (x 0).val) % 64 / 16 = q by omega]
  refine congrArg _ (funext fun a => Fin.ext ?_)
  match a with
  | 0 =>
    show (x 0).val = (64 * t + 16 * q + (x 0).val) % 16 % 16
    omega

omit [FloatOps F] in
/-- An element lies under a stored register if its number does. -/
theorem piece_mem (t q : ℕ) (off : Fin 1 → ℕ) (inb : ∀ a, off a + S16.size a ≤ S1024.size a) (h : off = ![64 * t + 16 * q]) (e : S1024.Idx) :
    e ∈ (Rect.unit (s := S1024) off S16.size inb).set ↔ 64 * t + 16 * q ≤ (e 0).val ∧ (e 0).val < 64 * t + 16 * q + 16 := by
  subst h
  rw [Rect.mem_set_unit]
  constructor
  · intro h; exact h 0
  · intro h a
    match a with
    | 0 => exact h

/-- One day: its points' loads, the two loops over days back (the second has no trip), and the four stores. -/
theorem trip1 (fx : Buf (Elt F) ((xB).view.loc (thrV d L))) (fy : Buf (Elt F) ((yB).view.loc (thrV d L))) (fw : Buf (Elt F) ((wB).view.loc (thrV d L)))
    (t1 : Fin k0_t1_loop.trips) (v3 : BitVec 32) (u : Unit) :
    inv1 d L fx fy fw t1.val u
      ⊢ wp frame (wpE (defs₀ (F := F)) 𝒱₀ (thrV d L) none) Set.univ
          (k0_t1_body L xpV (Memref.isWhole_whole _) ypV (Memref.isWhole_whole _) wsV (Memref.isWhole_whole _) outV (Memref.isWhole_whole _)
            xB (Memref.isWhole_whole _) yB (Memref.isWhole_whole _) wB (Memref.isWhole_whole _) oB (Memref.isWhole_whole _)
            cc0_scoped0 cc0_scoped1 cc0_scoped2 cc0_scoped3 v3 t1 u)
          (inv1 d L fx fy fw (t1.val + 1)) := by
  unfold k0_t1_body inv1
  iintro ⟨Hx, Hy, Hw, %fo, %hfo, Ho⟩
  sl_exec
  sl_for (inv2 d L fx fy fw (ld 3072 fx (64 * t1.val + 16 * 0 + 2048)) (ld 3072 fx (64 * t1.val + 16 * 1 + 2048))
      (ld 3072 fx (64 * t1.val + 16 * 2 + 2048)) (ld 3072 fx (64 * t1.val + 16 * 3 + 2048))
      (ld 3072 fy (64 * t1.val + 16 * 0 + 2048)) (ld 3072 fy (64 * t1.val + 16 * 1 + 2048))
      (ld 3072 fy (64 * t1.val + 16 * 2 + 2048)) (ld 3072 fy (64 * t1.val + 16 * 3 + 2048))
      (64 * t1.val + 1984) (broadcast S16 (Scalar.ofBits .f32 0x00000000#32))) $$ [Hx Hy Hw]
  case region =>
    intro k acc
    unfold trip1.sl.prog.body_1
    have e0 : trip1.sl.r d L fx t1 = ld 3072 fx (64 * t1.val + 16 * 0 + 2048) := (shapeCast_self _ _).trans (readAt_ld (View.whole cc0_scratch0) fx _ _ _ (k0_off2_eq t1 0))
    have e1 : trip1.sl.r_1 d L fx t1 = ld 3072 fx (64 * t1.val + 16 * 1 + 2048) := (shapeCast_self _ _).trans (readAt_ld (View.whole cc0_scratch0) fx _ _ _ (k0_off2_eq t1 1))
    have e2 : trip1.sl.r_2 d L fx t1 = ld 3072 fx (64 * t1.val + 16 * 2 + 2048) := (shapeCast_self _ _).trans (readAt_ld (View.whole cc0_scratch0) fx _ _ _ (k0_off2_eq t1 2))
    have e3 : trip1.sl.r_3 d L fx t1 = ld 3072 fx (64 * t1.val + 16 * 3 + 2048) := (shapeCast_self _ _).trans (readAt_ld (View.whole cc0_scratch0) fx _ _ _ (k0_off2_eq t1 3))
    have e4 : trip1.sl.r_4 d L fy t1 = ld 3072 fy (64 * t1.val + 16 * 0 + 2048) := (shapeCast_self _ _).trans (readAt_ld (View.whole cc0_scratch1) fy _ _ _ (k0_off2_eq t1 0))
    have e5 : trip1.sl.r_5 d L fy t1 = ld 3072 fy (64 * t1.val + 16 * 1 + 2048) := (shapeCast_self _ _).trans (readAt_ld (View.whole cc0_scratch1) fy _ _ _ (k0_off2_eq t1 1))
    have e6 : trip1.sl.r_6 d L fy t1 = ld 3072 fy (64 * t1.val + 16 * 2 + 2048) := (shapeCast_self _ _).trans (readAt_ld (View.whole cc0_scratch1) fy _ _ _ (k0_off2_eq t1 2))
    have e7 : trip1.sl.r_7 d L fy t1 = ld 3072 fy (64 * t1.val + 16 * 3 + 2048) := (shapeCast_self _ _).trans (readAt_ld (View.whole cc0_scratch1) fy _ _ _ (k0_off2_eq t1 3))
    rw [e0, e1, e2, e3, e4, e5, e6, e7]
    exact trip2 d L fx fy fw t1 k _ _ _ _ _ _ _ _ _ _ acc
  · unfold inv2
    isplitr; · ipureintro; rfl
    isplitl [Hx]; · iexact Hx
    isplitl [Hy]; · iexact Hy
    iexact Hw
  unfold inv2
  iintro %acc ⟨%hacc, Hx, Hy, Hw⟩
  subst hacc
  sl_exec
  sl_for (fun (_ : ℕ) (r : Quad (F := F)) => iprop(⌜r = (dayReg fw fx fy (tileNo L) t1.val 0, dayReg fw fx fy (tileNo L) t1.val 1,
      dayReg fw fx fy (tileNo L) t1.val 2, dayReg fw fx fy (tileNo L) t1.val 3)⌝)) $$ []
  case region => intro k _; exact absurd k.isLt (Nat.not_lt.2 (Nat.le_trans (k0_t4_abs L t1).2.1 (Nat.zero_le _)))
  · ipureintro
    have h : Scf.trips (k0_t2_loop L t1).lb (k0_t2_loop L t1).ub (k0_t2_loop L t1).st = back (tileNo L) t1.val := trips2 L t1
    rw [h]; rfl
  iintro %acc %hacc
  subst hacc
  sl_exec
  sl_step
  isplitl [Hx]; · iexact Hx
  isplitl [Hy]; · iexact Hy
  isplitl [Hw]; · iexact Hw
  iexists _
  isplitr
  swap
  · iexact Ho
  ipureintro
  intro e he
  have he' : (e 0).val < 1024 := (e 0).isLt
  refine (congrFun (View.read_whole cc0_scratch3 _) e).symm.trans ?_
  by_cases hlt : (e 0).val < 64 * t1.val
  · refine (View.read_writes_apply_of_forall_not_mem _ _ _ _ ?_).trans ((congrFun (View.read_whole cc0_scratch3 fo) e).trans (hfo e hlt))
    simp only [List.forall_mem_cons, List.not_mem_nil, false_imp_iff, implies_true, and_true]
    refine ⟨?_, ?_, ?_, ?_⟩
    · exact fun h => absurd ((piece_mem t1.val 3 _ _ (k0_off7_eq t1 3) e).1 h).1 (by omega)
    · exact fun h => absurd ((piece_mem t1.val 2 _ _ (k0_off7_eq t1 2) e).1 h).1 (by omega)
    · exact fun h => absurd ((piece_mem t1.val 1 _ _ (k0_off7_eq t1 1) e).1 h).1 (by omega)
    · exact fun h => absurd ((piece_mem t1.val 0 _ _ (k0_off7_eq t1 0) e).1 h).1 (by omega)
  · refine View.read_writes_apply_of_pieces (Val := Elt F) (e := .f32) _ _ (tileVal fw fx fy (tileNo L)) _ ?_ e ?_
    · simp only [List.forall_mem_cons, List.not_mem_nil, false_imp_iff, implies_true, and_true]
      refine ⟨?_, ?_, ?_, ?_⟩
      · exact fun x => piece_val fx fy fw _ t1.val 3 (by omega) _ _ (k0_off7_eq t1 3) _ (shapeCast_self _ _) x
      · exact fun x => piece_val fx fy fw _ t1.val 2 (by omega) _ _ (k0_off7_eq t1 2) _ (shapeCast_self _ _) x
      · exact fun x => piece_val fx fy fw _ t1.val 1 (by omega) _ _ (k0_off7_eq t1 1) _ (shapeCast_self _ _) x
      · exact fun x => piece_val fx fy fw _ t1.val 0 (by omega) _ _ (k0_off7_eq t1 0) _ (shapeCast_self _ _) x
    · simp only [List.exists_mem_cons_iff, List.not_mem_nil, false_and, exists_false, or_false]
      rcases (show 64 * t1.val + 16 * 3 ≤ (e 0).val ∨ (64 * t1.val + 16 * 2 ≤ (e 0).val ∧ (e 0).val < 64 * t1.val + 16 * 2 + 16)
        ∨ (64 * t1.val + 16 * 1 ≤ (e 0).val ∧ (e 0).val < 64 * t1.val + 16 * 1 + 16)
        ∨ (64 * t1.val + 16 * 0 ≤ (e 0).val ∧ (e 0).val < 64 * t1.val + 16 * 0 + 16) by omega) with h | h | h | h
      · exact .inl ((piece_mem t1.val 3 _ _ (k0_off7_eq t1 3) e).2 ⟨h, by omega⟩)
      · exact .inr (.inl ((piece_mem t1.val 2 _ _ (k0_off7_eq t1 2) e).2 h))
      · exact .inr (.inr (.inl ((piece_mem t1.val 1 _ _ (k0_off7_eq t1 1) e).2 h)))
      · exact .inr (.inr (.inr ((piece_mem t1.val 0 _ _ (k0_off7_eq t1 0) e).2 h)))

end Cert.Proof.PI
-- ==== Proof.PI.Tile.lean ====
/-
  One vector subcore's task: the three fetches, the loop over its sixteen days, the write-out.
-/
module

public import proofs.«01_k».proof.Proof.PI.Trip

@[expose] public section

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The operands, and each tile's part of them -/

/-- The operands' locations on device `d`. -/
abbrev xLoc (d : Dev nD) : Loc nD τ sig := (SparseCore.T d).loc main_v19
/-- The scaled ordinates'. -/
abbrev yLoc (d : Dev nD) : Loc nD τ sig := (SparseCore.T d).loc main_v20
/-- The weights'. -/
abbrev wLoc (d : Dev nD) : Loc nD τ sig := (SparseCore.T d).loc main_v37
/-- The result's. -/
abbrev oLoc (d : Dev nD) : Loc nD τ sig := (SparseCore.T d).loc main_v38

/-- The result is cut in thirty-two. -/
theorem odiv : 32 ∣ S32768.size 0 := ⟨1024, rfl⟩
/-- The thirty-second `w` of the result. -/
abbrev orow (w : Fin 32) : Rect S32768 := Rect.part (s := S32768) (a₀ := 0) odiv w
/-- Its indices. -/
abbrev oRowSet (w : Fin 32) : Finset S32768.Idx := ((outV).view.slice (orow w)).set
/-- The share of an operand that a tile reads through: every tile reads the same weights, and overlapping points. -/
abbrev rq (w : Fin 32) : PosShare TreeShare := ShareLeaves.leaf 5 fullShare w

/-- The tile's number as an index. -/
abbrev wL (L : grid0.Coords) : Fin 32 := ⟨tileNo L, by
  have h0 : (L 0).val < 2 := (L 0).isLt
  have h1 : (L 1).val < 16 := (L 1).isLt
  show 16 * (L 0).val + (L 1).val < 32
  omega⟩

/-- The points a tile fetches: three thousand and seventy-two, from its number's place. -/
def win (X : S34816.Idx → F .f32) (w : ℕ) : S3072.Idx → F .f32 := fun j => X (ix 34816 (1024 * w + (j 0).val))

/-- What the kernel's call leaves in its result. -/
def outVal [FloatOps F] (X Y : S34816.Idx → F .f32) (W : S512.Idx → F .f32) : S32768.Idx → F .f32 := fun e =>
  tileVal W (win X ((e 0).val / 1024)) (win Y ((e 0).val / 1024)) ((e 0).val / 1024) (ix 1024 ((e 0).val % 1024))

section Tile

variable (d : Dev nD) (L : grid0.Coords)

/-- The part of the result that a tile writes, as its body names it. -/
abbrev orowK : Rect S32768 := Rect.unit (s := S32768) (k0_off8 L) S1024.size (k0_off8_inb L)
/-- The same, as a memref. -/
abbrev oRowK : Memref sig .scVector .hbm S1024 .f32 := (outV).slice (orowK L) (fun _ => rfl)
/-- The part of the points that a tile fetches. -/
abbrev xrowK : Rect S34816 := Rect.unit (s := S34816) (k0_off1 L) S3072.size (k0_off1_inb L)

/-- The part a tile's body writes is the thirty-second of its number. -/
theorem orowK_eq : orowK L = orow (wL L) := by
  unfold orowK orow Rect.part Rect.block
  congr 1 <;> funext a
  · rw [k0_off8_eq]
    match a with
    | 0 =>
      show 16384 * (L 0).val + 1024 * (L 1).val = _
      simp [Shape.partIx, Shape.partSize, tileNo]
      omega
  · match a with
    | 0 => simp [Shape.partSize]

/-- The same, as sets of indices. -/
theorem set_oRowK : (oRowK L).view.set = oRowSet (wL L) := by
  show ((outV).view.slice (orowK L)).set = ((outV).view.slice (orow (wL L))).set
  exact orowK_eq L ▸ rfl

/-- Owning the part by the body's name is owning the thirty-second. -/
theorem pts_oRowK (f : Buf (Elt F) (oLoc d)) :
    ((oRowK L).view.loc (thrV d L) ↦[(oRowK L).view.set]{fullShare} f : sProp 𝕄) = oLoc d ↦[oRowSet (wL L)]{fullShare} f := by
  rw [set_oRowK]

/-- The transfer counter of the abscissas. -/
abbrev sAcell (d : Dev nD) (c : Fin τ.nSC) (i : Fin τ.nSub) : GSem nD τ sig := (V d c i, .dma cc0_scoped0.sem)
/-- That of the ordinates. -/
abbrev sBcell (d : Dev nD) (c : Fin τ.nSC) (i : Fin τ.nSub) : GSem nD τ sig := (V d c i, .dma cc0_scoped1.sem)
/-- That of the weights. -/
abbrev sCcell (d : Dev nD) (c : Fin τ.nSC) (i : Fin τ.nSub) : GSem nD τ sig := (V d c i, .dma cc0_scoped2.sem)
/-- That of the result. -/
abbrev sDcell (d : Dev nD) (c : Fin τ.nSC) (i : Fin τ.nSub) : GSem nD τ sig := (V d c i, .dma cc0_scoped3.sem)

/-- The four transfer counters are among the subcore's own. -/
theorem ownSems0_V :
    (ownSems0 (thrV d L) : sProp 𝕄)
      = iprop(semVal (sAcell d (cV L) (jV L)) 0 ∗ semVal (sBcell d (cV L) (jV L)) 0 ∗ semVal (sCcell d (cV L) (jV L)) 0
          ∗ semVal (sDcell d (cV L) (jV L)) 0
          ∗ bigSep (((((ownCells (thrV d L)).erase (sAcell d (cV L) (jV L))).erase (sBcell d (cV L) (jV L))).erase (sCcell d (cV L) (jV L))).erase
              (sDcell d (cV L) (jV L))) fun g => semVal g 0) := by
  unfold SparseCore.Cfg.ownSems0
  rw [SparseCore.bigSep_erase' ((mem_ownCells (g := sAcell d (cV L) (jV L))).mpr ⟨rfl, by
      show (SemLoc.dma cc0_scoped0.sem : SemLoc sig).isScoped .scVector = true; decide⟩),
    SparseCore.bigSep_erase' (Finset.mem_erase.mpr ⟨by simp [sAcell, sBcell]; decide, (mem_ownCells (g := sBcell d (cV L) (jV L))).mpr ⟨rfl, by
      show (SemLoc.dma cc0_scoped1.sem : SemLoc sig).isScoped .scVector = true; decide⟩⟩),
    SparseCore.bigSep_erase' (Finset.mem_erase.mpr ⟨by simp [sBcell, sCcell]; decide, Finset.mem_erase.mpr ⟨by simp [sAcell, sCcell]; decide,
      (mem_ownCells (g := sCcell d (cV L) (jV L))).mpr ⟨rfl, by show (SemLoc.dma cc0_scoped2.sem : SemLoc sig).isScoped .scVector = true; decide⟩⟩⟩),
    SparseCore.bigSep_erase' (Finset.mem_erase.mpr ⟨by simp [sCcell, sDcell]; decide, Finset.mem_erase.mpr ⟨by simp [sBcell, sDcell]; decide,
      Finset.mem_erase.mpr ⟨by simp [sAcell, sDcell]; decide,
      (mem_ownCells (g := sDcell d (cV L) (jV L))).mpr ⟨rfl, by show (SemLoc.dma cc0_scoped3.sem : SemLoc sig).isScoped .scVector = true; decide⟩⟩⟩⟩)]

/-- A buffer of the subcore's own, as the body's memrefs name it. -/
abbrev dr (b : Ref sig .scVector) : DevRef τ sig := (Proc.scVector (cV L) (jV L)).devRef b

/-- Buffers of different names are different. -/
theorem dr_ne {b b' : Ref sig .scVector} (h : b ≠ b') : dr L b ≠ dr L b' := fun e => absurd (Proc.devRef_injective _ e) h

/-- The four working buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (.scVector (cV L) (jV L))).erase (dr L cc0_scratch0)).erase (dr L cc0_scratch1)).erase
              (dr L cc0_scratch2)).erase (dr L cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dr L cc0_scratch0) rfl)).trans ?_
  rw [SparseCore.bigSep_erase' (Finset.mem_erase.mpr ⟨dr_ne L (show (cc0_scratch1 : Ref sig .scVector) ≠ cc0_scratch0 by decide),
      SparseCore.Cfg.mem_ownRefs_of_owner (p := Proc.scVector (cV L) (jV L)) (b := dr L cc0_scratch1) rfl⟩),
    SparseCore.bigSep_erase' (Finset.mem_erase.mpr ⟨dr_ne L (show (cc0_scratch2 : Ref sig .scVector) ≠ cc0_scratch1 by decide),
      Finset.mem_erase.mpr ⟨dr_ne L (show (cc0_scratch2 : Ref sig .scVector) ≠ cc0_scratch0 by decide),
      SparseCore.Cfg.mem_ownRefs_of_owner (p := Proc.scVector (cV L) (jV L)) (b := dr L cc0_scratch2) rfl⟩⟩),
    SparseCore.bigSep_erase' (Finset.mem_erase.mpr ⟨dr_ne L (show (cc0_scratch3 : Ref sig .scVector) ≠ cc0_scratch2 by decide),
      Finset.mem_erase.mpr ⟨dr_ne L (show (cc0_scratch3 : Ref sig .scVector) ≠ cc0_scratch1 by decide),
      Finset.mem_erase.mpr ⟨dr_ne L (show (cc0_scratch3 : Ref sig .scVector) ≠ cc0_scratch0 by decide),
      SparseCore.Cfg.mem_ownRefs_of_owner (p := Proc.scVector (cV L) (jV L)) (b := dr L cc0_scratch3) rfl⟩⟩⟩)]

variable [FloatOps F]

/-- The fetched rectangle of the points, read. -/
theorem read_xrow (X : S34816.Idx → F .f32) : ((xpV).slice (xrowK L) (fun _ => rfl)).view.read (Elt F) X = win X (tileNo L) := by
  funext j
  show X ((xrowK L).emb j) = _
  refine congrArg X (funext fun a => Fin.ext ?_)
  have h0 : (L 0).val < 2 := (L 0).isLt
  have h1 : (L 1).val < 16 := (L 1).isLt
  have hj : (j 0).val < 3072 := (j 0).isLt
  match a with
  | 0 =>
    refine (Rect.emb_apply _ _ _).trans ?_
    show k0_off1 L 0 + 1 * (j 0).val = (1024 * (16 * (L 0).val + (L 1).val) + (j 0).val) % 34816
    rw [k0_off1_eq]
    show 16384 * (L 0).val + 1024 * (L 1).val + 1 * (j 0).val = _
    omega

/-- The weights, read whole. -/
theorem read_ws (W : S512.Idx → F .f32) : (wsV).view.read (Elt F) W = W := View.read_whole (Val := Elt F) main_v37_scv W

/-- What a tile is handed: read shares of the points and the weights, and its part of the result. -/
abbrev goPts (X Y : S34816.Idx → F .f32) (W : S512.Idx → F .f32) (d : Dev nD) (w : Fin 32) : sProp 𝕄 :=
  iprop((xLoc d ↦{rq w} X) ∗ (yLoc d ↦{rq w} Y) ∗ (wLoc d ↦{rq w} W) ∗ ∃ f, oLoc d ↦[oRowSet w]{fullShare} f)
/-- What it hands back: the same, its part of the result holding the sums. -/
abbrev tdPts (X Y : S34816.Idx → F .f32) (W : S512.Idx → F .f32) (d : Dev nD) (w : Fin 32) : sProp 𝕄 :=
  iprop((xLoc d ↦{rq w} X) ∗ (yLoc d ↦{rq w} Y) ∗ (wLoc d ↦{rq w} W) ∗ oLoc d ↦[oRowSet w]{fullShare} outVal X Y W)

/-- A tile's result, read whole. -/
theorem read_oB (f : S1024.Idx → F .f32) : (oB).view.read (Elt F) f = f := View.read_whole (Val := Elt F) cc0_scratch3 f

/-- A tile's result written to its part of the kernel's: there the kernel's result is the tile's. -/
theorem out_congr (X Y : S34816.Idx → F .f32) (W : S512.Idx → F .f32) (f : Buf (Elt F) ((oRowK L).view.loc (thrV d L)))
    (p : S1024.Idx → F .f32) (hp : ∀ e, p e = tileVal W (win X (tileNo L)) (win Y (tileNo L)) (tileNo L) e) :
    ∀ i ∈ (oRowK L).view.set, (oRowK L).view.writes (Elt F) f [⟨Rect.whole S1024, p⟩] i = outVal X Y W i := by
  intro i hi
  obtain ⟨j, -, rfl⟩ := Finset.mem_map.mp hi
  have h1 : (oRowK L).view.read (Elt F) ((oRowK L).view.writes (Elt F) f [⟨Rect.whole S1024, p⟩]) j = p j := by
    refine View.read_writes_apply_of_pieces (Val := Elt F) (e := .f32) _ _ p _ ?_ j ⟨_, List.mem_singleton.2 rfl, ?_⟩
    · intro q hq x
      obtain rfl := List.mem_singleton.1 hq
      refine congrArg p (funext fun a => Fin.ext (((Rect.emb_apply _ _ _).trans ?_).symm))
      show 0 + 1 * (x a).val = (x a).val
      omega
    · rw [Rect.set_whole]; exact Finset.mem_univ _
  refine Eq.trans ?_ (h1.trans ((hp j).trans ?_))
  · rfl
  have h0 : (L 0).val < 2 := (L 0).isLt
  have h2 : (L 1).val < 16 := (L 1).isLt
  have hj : (j 0).val < 1024 := (j 0).isLt
  have he : ((oRowK L).view.emb j 0).val = 1024 * tileNo L + (j 0).val := by
    refine (Rect.emb_apply (orowK L) j 0).trans ?_
    show k0_off8 L 0 + 1 * (j 0).val = _
    rw [k0_off8_eq]
    show 16384 * (L 0).val + 1024 * (L 1).val + 1 * (j 0).val = 1024 * (16 * (L 0).val + (L 1).val) + (j 0).val
    omega
  unfold outVal
  rw [he, show (1024 * tileNo L + (j 0).val) / 1024 = tileNo L by omega, show (1024 * tileNo L + (j 0).val) % 1024 = (j 0).val by omega]
  refine congrArg _ (funext fun a => Fin.ext ?_)
  match a with
  | 0 => show (j 0).val = (j 0).val % 1024; omega

set_option maxHeartbeats 4000000 in
/-- The task on the subcore `L` of device `d`: from read shares of the points and the weights and its part of the
    result, it terminates with its part of the result holding the sums. -/
theorem tile_body (X Y : S34816.Idx → F .f32) (W₀ : S512.Idx → F .f32)
    (hF : (K (F := F)).Facts) (O : CellTallies nD τ sig (HIx 1)) (W : Waits sig (HIx 1)) (hO : ∀ g, O g none = 0) :
    iprop(levAts (K (F := F)).L (K (F := F)).lev ∗ emp ∗ goPts X Y W₀ d (wL L)
        ∗ scopedBufs (thrV d L) ∗ scopedSems0 (thrV d L) ∗ owes (thrV d L) O W)
      ⊢ wp frame (wpE (defs₀ (F := F)) 𝒱₀ (thrV d L) none) Set.univ
          (cc0__sc_kers_body L xpV (Memref.isWhole_whole _) ypV (Memref.isWhole_whole _) wsV (Memref.isWhole_whole _) outV (Memref.isWhole_whole _)
            xB (Memref.isWhole_whole _) yB (Memref.isWhole_whole _) wB (Memref.isWhole_whole _) oB (Memref.isWhole_whole _)
            cc0_scoped0 cc0_scoped1 cc0_scoped2 cc0_scoped3)
          fun _ => iprop(tdPts X Y W₀ d (wL L)
            ∗ scopedBufs (thrV d L) ∗ scopedSems0 (thrV d L)
            ∗ ∃ W', ⌜∀ p ∈ W', p ∈ W ∨ p.2 = none⌝ ∗ owes (thrV d L) O W') := by
  simp only [cc0__sc_kers_body_eq_skeleton]; unfold cc0__sc_kers_body_skel
  rw [(K (F := F)).scopedBufs_V hF d (cV L) (jV L), SparseCore.Cfg.scopedSems0_V (Val := Elt F) d (cV L) (jV L), ownSems0_V, ownBufs_V]
  iintro ⟨#Hlv, -, ⟨Hx, Hy, Hw, %fo, Ho⟩, ⟨⟨%fx0, Hxb⟩, ⟨%fy0, Hyb⟩, ⟨%fw0, Hwb⟩, ⟨%fo0, Hob⟩, Hbufs⟩, ⟨HsA, HsB, HsC, HsD, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hx' := (Entails.of_eq (show (xLoc d ↦{rq (wL L)} X : sProp 𝕄) = (xpV).view.loc (thrV d L) ↦{rq (wL L)} X from rfl)) $$ Hx
  ihave Hy' := (Entails.of_eq (show (yLoc d ↦{rq (wL L)} Y : sProp 𝕄) = (ypV).view.loc (thrV d L) ↦{rq (wL L)} Y from rfl)) $$ Hy
  ihave Hw' := (Entails.of_eq (show (wLoc d ↦{rq (wL L)} W₀ : sProp 𝕄) = (wsV).view.loc (thrV d L) ↦{rq (wL L)} W₀ from rfl)) $$ Hw
  ihave Ho' := (Entails.of_eq (pts_oRowK (F := F) d L _).symm) $$ Ho
  ihave Hxb' := (Entails.of_eq (show ((thrV d L).loc cc0_scratch0 ↦{fullShare} fx0 : sProp 𝕄) = (xB).view.loc (thrV d L) ↦{fullShare} fx0 from rfl)) $$ Hxb
  ihave Hyb' := (Entails.of_eq (show ((thrV d L).loc cc0_scratch1 ↦{fullShare} fy0 : sProp 𝕄) = (yB).view.loc (thrV d L) ↦{fullShare} fy0 from rfl)) $$ Hyb
  ihave Hwb' := (Entails.of_eq (show ((thrV d L).loc cc0_scratch2 ↦{fullShare} fw0 : sProp 𝕄) = (wB).view.loc (thrV d L) ↦{fullShare} fw0 from rfl)) $$ Hwb
  ihave Hob' := (Entails.of_eq (show ((thrV d L).loc cc0_scratch3 ↦{fullShare} fo0 : sProp 𝕄) = (oB).view.loc (thrV d L) ↦{fullShare} fo0 from rfl)) $$ Hob
  sl_exec
  have ex : View.write (Elt F) xB.view fx0 (tile_body.sl.dma0 L X) Finset.univ = win X (tileNo L) :=
    (View.write_whole_univ _ _ _).trans (read_xrow L X)
  have ey : View.write (Elt F) yB.view fy0 (tile_body.sl.dma0_1 L Y) Finset.univ = win Y (tileNo L) :=
    (View.write_whole_univ _ _ _).trans (read_xrow L Y)
  have ew : View.write (Elt F) wB.view fw0 (tile_body.sl.dma0_2 W₀) Finset.univ = W₀ :=
    (View.write_whole_univ _ _ _).trans (read_ws W₀)
  rw [ex, ey, ew]
  sl_for (inv1 d L (win X (tileNo L)) (win Y (tileNo L)) W₀) $$ [Hxb' Hyb' Hwb' Hob']
  case region =>
    intro k u
    exact trip1 d L _ _ _ k _ u
  · unfold inv1
    isplitl [Hxb']; · iexact Hxb'
    isplitl [Hyb']; · iexact Hyb'
    isplitl [Hwb']; · iexact Hwb'
    iexists _
    isplitr; swap; · iexact Hob'
    ipureintro; intro e he; exact absurd he (by omega)
  unfold inv1
  iintro %u ⟨Hxb', Hyb', Hwb', %fo1, %hfo1, Hob'⟩
  sl_exec
  sl_step
  isplitl [Hx' Hy' Hw' Ho']
  · isplitl [Hx']; · iexact Hx'
    isplitl [Hy']; · iexact Hy'
    isplitl [Hw']; · iexact Hw'
    iapply (Entails.of_eq (pts_oRowK (F := F) d L _))
    iapply (Entails.of_eq (pointsTo_congr (out_congr d L X Y W₀ fo _ fun e => (congrFun (read_oB fo1) e).trans (hfo1 e (e 0).isLt))))
    iexact Ho'
  isplitl [Hxb' Hyb' Hwb' Hob' Hbufs]
  · isplitl [Hxb']; · iexists _; iexact Hxb'
    isplitl [Hyb']; · iexists _; iexact Hyb'
    isplitl [Hwb']; · iexists _; iexact Hwb'
    isplitl [Hob']; · iexists _; iexact Hob'
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.PI
-- ==== Proof.PI.Launch.lean ====
/-
  The SparseCore call as the launch theorem takes it: what travels with the call's signals, each tile's obligation, how
  the whole operands are dealt over the thirty-two tiles and the result's parts join, and the launch's ghost state.
-/
module

public import proofs.«01_k».proof.Proof.PI.Tile
public import Idealize.ShloMosaic.Lib.Pipeline.Regions
public import proofs.«01_k».proof.Proof.Gen.KernelIdeal.Launch

@[expose] public section

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What travels with the call -/

/-- The number of tile `i` of SparseCore `c`. -/
def taskW (c : Fin 2) (i : Fin 16) : Fin 32 := ⟨16 * c.val + i.val, by omega⟩

variable [FloatOps F] (X Y : Dev nD → S34816.Idx → F .f32) (W : Dev nD → S512.Idx → F .f32)

/-- The call's payloads: a SparseCore is handed what its sixteen tiles read and write, and hands it back with the result
    written. -/
def P : (K (F := F)).Pay (nD := nD) (Val := Elt F) (Name := ℕ) (U := UU) where
  st := fun q d c => match q with
    | 0 => bigSep Finset.univ fun i : Fin 16 => goPts (X d) (Y d) (W d) d (taskW (Fin.cast nCore_zero c) i)
  dn := fun q d c => match q with
    | 0 => bigSep Finset.univ fun i : Fin 16 => tdPts (X d) (Y d) (W d) d (taskW (Fin.cast nCore_zero c) i)
  go := fun q d c i => match q with
    | 0 => goPts (X d) (Y d) (W d) d (taskW (Fin.cast nCore_zero c) (Fin.cast nSub_zero i))
  td := fun q d c i => match q with
    | 0 => tdPts (X d) (Y d) (W d) d (taskW (Fin.cast nCore_zero c) (Fin.cast nSub_zero i))
  x := fun _ _ => iprop(emp)

/-- What a tile is started with can be kept in an invariant. -/
instance goPts_storable (X Y : S34816.Idx → F .f32) (W : S512.Idx → F .f32) (d : Dev nD) (w : Fin 32) :
    BI.Storable (upEmb : UEmb _ 𝕄) (goPts X Y W d w) := by unfold goPts; infer_instance
/-- What a tile hands back can be kept in an invariant. -/
instance tdPts_storable (X Y : S34816.Idx → F .f32) (W : S512.Idx → F .f32) (d : Dev nD) (w : Fin 32) :
    BI.Storable (upEmb : UEmb _ 𝕄) (tdPts X Y W d w) := by unfold tdPts; infer_instance

/-- So can every payload of the launch. -/
instance P_storable : (P X Y W).IsStorable where
  st q d c := match q with
    | 0 => (inferInstance : BI.Storable (upEmb : UEmb _ 𝕄)
        (bigSep Finset.univ fun i : Fin 16 => goPts (X d) (Y d) (W d) d (taskW (Fin.cast nCore_zero c) i)))
  dn q d c := match q with
    | 0 => (inferInstance : BI.Storable (upEmb : UEmb _ 𝕄)
        (bigSep Finset.univ fun i : Fin 16 => tdPts (X d) (Y d) (W d) d (taskW (Fin.cast nCore_zero c) i)))
  go q d c i := match q with
    | 0 => (inferInstance : BI.Storable (upEmb : UEmb _ 𝕄)
        (goPts (X d) (Y d) (W d) d (taskW (Fin.cast nCore_zero c) (Fin.cast nSub_zero i))))
  td q d c i := match q with
    | 0 => (inferInstance : BI.Storable (upEmb : UEmb _ 𝕄)
        (tdPts (X d) (Y d) (W d) d (taskW (Fin.cast nCore_zero c) (Fin.cast nSub_zero i))))

/-! ## The tiles' obligation -/

/-- The grid's coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's task is the kernel's body at the tile's coordinates. -/
theorem defs₀_vector (c : Fin τ.nSC) (s : Fin τ.nSub) :
    defs₀ (F := F) (.scVector c s) 0 ()
      = SparseCore.onTile hcore0 hsub0 (fun c s => cc0__sc_kers_body (coordsV c s)
          xpV (Memref.isWhole_whole _) ypV (Memref.isWhole_whole _) wsV (Memref.isWhole_whole _) outV (Memref.isWhole_whole _)
          xB (Memref.isWhole_whole _) yB (Memref.isWhole_whole _) wB (Memref.isWhole_whole _) oB (Memref.isWhole_whole _)
          cc0_scoped0 cc0_scoped1 cc0_scoped2 cc0_scoped3) ⟨⟩ c s := rfl

omit [FloatOps F] in
/-- The waits a task records are of no call's index, so of those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task turns what it is handed into what it hands back. -/
theorem tileObl (hF : (K (F := F)).Facts) : (K (F := F)).TileObl (D (F := F)) 𝒱 (P X Y W) v₀ 0 := by
  intro d c i O W' hO _ _
  simp only [show (P X Y W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X d) (Y d) (W d) hF O W' hO).trans (wp_mono frame _ _ fun _ => obl_post)

/-- A SparseCore's operands are its tiles', and its results theirs. -/
theorem vecSplit : (K (F := F)).VecSplit' (P X Y W) 0 := by
  intro d c
  show (bigSep Finset.univ fun i : Fin 16 => goPts (X d) (Y d) (W d) d (taskW (Fin.cast nCore_zero c) i))
      ⊢ |={Set.univ}=> iprop(
        (bigSep Finset.univ fun i : Fin 16 => goPts (X d) (Y d) (W d) d (taskW (Fin.cast nCore_zero c) i))
        ∗ ((bigSep Finset.univ fun i : Fin 16 => tdPts (X d) (Y d) (W d) d (taskW (Fin.cast nCore_zero c) i))
          -∗ (bigSep Finset.univ fun i : Fin 16 => tdPts (X d) (Y d) (W d) d (taskW (Fin.cast nCore_zero c) i))))
  iintro H; imodintro
  isplitl [H]; · iexact H
  iintro H; iexact H

/-! ## The operands dealt over the tiles, and the result's parts joined -/

omit [FloatOps F] in
/-- The thirty-two tiles, SparseCore by SparseCore. -/
theorem bigSep_tiles (Φ : Fin 32 → sProp 𝕄) :
    (bigSep Finset.univ fun c : Fin 2 => bigSep Finset.univ fun i : Fin 16 => Φ (taskW c i)) = bigSep Finset.univ Φ := by
  rw [bigSep_univ_equiv (finProdFinEquiv (m := 2) (n := 16)) Φ, bigSep_univ_prod]
  refine bigSep_congr fun c _ => bigSep_congr fun i _ => congrArg Φ (Fin.ext ?_)
  show 16 * c.val + i.val = i.val + 16 * c.val
  omega

omit [FloatOps F] in
/-- A tile's part of the result, as a set of indices, is its thirty-second. -/
theorem oRowSet_eq (i : Fin 32) : oRowSet i = (orow i).set := by
  show ((View.whole (main_v38_scv : Ref sig .scVector)).slice (orow i)).set = _
  rw [View.set_slice]; exact Finset.map_refl
omit [FloatOps F] in
/-- Two tiles' parts of the result do not meet. -/
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
/-- The tiles' parts are the whole result. -/
theorem orows_cover : (Finset.univ : Finset (Fin 32)).biUnion oRowSet = Finset.univ :=
  (Finset.biUnion_congr rfl fun i _ => oRowSet_eq i).trans (Rect.biUnion_part odiv)
omit [FloatOps F] in
/-- The result's buffer is its thirty-two parts. -/
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl

omit [FloatOps F] in
/-- A whole buffer is its thirty-two leaves' shares. -/
theorem pts_leaves (ℓ : Loc nD τ sig) (f : Buf (Elt F) ℓ) :
    (ℓ ↦{fullShare} f : sProp 𝕄) = bigSep Finset.univ fun w : Fin 32 => ℓ ↦{rq w} f :=
  ShareLeaves.pointsTo_leaves Finset.univ f 5 fullShare

/-- What is dealt to the SparseCores: the three operands whole, and the result's buffer at any contents. -/
theorem st_of (d : Dev nD) (f : Buf (Elt F) (oLoc d)) :
    iprop((xLoc d ↦{fullShare} X d) ∗ (yLoc d ↦{fullShare} Y d) ∗ (wLoc d ↦{fullShare} W d) ∗ oLoc d ↦{fullShare} f)
      ⊢ (bigSep Finset.univ fun c : Fin ((K (F := F)).nCore 0) => (P X Y W).st 0 d c : sProp 𝕄) := by
  show _ ⊢ (bigSep Finset.univ fun c : Fin 2 => bigSep Finset.univ fun i : Fin 16 => goPts (X d) (Y d) (W d) d (taskW c i) : sProp 𝕄)
  rw [bigSep_tiles (fun w => goPts (X d) (Y d) (W d) d w),
    pts_leaves (xLoc d), pts_leaves (yLoc d), pts_leaves (wLoc d), oPts_rows, ← bigSep_sep', ← bigSep_sep', ← bigSep_sep']
  refine bigSep_mono fun w _ => ?_
  show (iprop((xLoc d ↦{rq w} X d) ∗ (yLoc d ↦{rq w} Y d) ∗ (wLoc d ↦{rq w} W d) ∗ oLoc d ↦[oRowSet w]{fullShare} f) : sProp 𝕄) ⊢ goPts (X d) (Y d) (W d) d w
  iintro ⟨Hx, Hy, Hw, Ho⟩
  isplitl [Hx]; · iexact Hx
  isplitl [Hy]; · iexact Hy
  isplitl [Hw]; · iexact Hw
  iexists f; iexact Ho

/-- What comes back: the operands whole, and the result's buffer at the kernel's sums. -/
theorem of_dn (d : Dev nD) :
    (bigSep Finset.univ fun c : Fin ((K (F := F)).nCore 0) => (P X Y W).dn 0 d c : sProp 𝕄)
      ⊢ iprop((xLoc d ↦{fullShare} X d) ∗ (yLoc d ↦{fullShare} Y d) ∗ (wLoc d ↦{fullShare} W d)
          ∗ oLoc d ↦{fullShare} outVal (X d) (Y d) (W d)) := by
  show (bigSep Finset.univ fun c : Fin 2 => bigSep Finset.univ fun i : Fin 16 => tdPts (X d) (Y d) (W d) d (taskW c i) : sProp 𝕄) ⊢ _
  rw [bigSep_tiles (fun w => tdPts (X d) (Y d) (W d) d w),
    pts_leaves (xLoc d), pts_leaves (yLoc d), pts_leaves (wLoc d), oPts_rows, ← bigSep_sep', ← bigSep_sep', ← bigSep_sep']

/-! ## The launch's ghost state -/

/-- The handshakes' cells, the TensorCore call's staging cells, and the transfers' counters. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the TensorCore's program starts from: its call's staging cells. -/
abbrev G (d : Dev nD) : sProp 𝕄 := iprop(Pipeline.cellsGhost cfgs EP 0 d ∗ Pipeline.toksInit cfgs EP 0 d)

omit [FloatOps F] in
/-- Any number of empty resources is an empty resource. -/
theorem bigSep_emp' {I : Type} (s : Finset I) : (bigSep s fun _ => iprop(emp)) = (iprop(emp) : sProp 𝕄) := bigSep_emp_const s

/-- The ghost state splits into the handshakes' cells and the staging cells'. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P X Y W).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HP⟩
  ihave HP' := (own_pair_emb (embR : Emb (UP × Counters) 𝕄) (initOf (Pipeline.cells (nD := nD) (τ := τ) cfgs cellOf_inj) (Pipeline.launchToks (nD := nD) (τ := τ) cfgs cellOf_inj)) (1 : Counters)) $$ HP
  icases HP' with ⟨HP, -⟩
  ihave HE := (show BI.own (((Emb.inl : Emb UP (UP × Counters)).trans (embR : Emb (UP × Counters) 𝕄)) _) ⊢ BI.own ((EP : Emb UP 𝕄) _) from BIBase.Entails.rfl) $$ HP
  imod (Pipeline.fund_ghost cfgs EP cellOf_inj) $$ HE with HP
  icases HP with ⟨HC, HT⟩
  imodintro
  isplitl [HH]; · iexact HH
  isplitl [HC HT]
  · rw [bigSep_sep']
    isplitl [HC]
    · iapply (Entails.of_eq (show (bigSep Finset.univ fun d : Dev nD => bigSep Finset.univ fun p : Fin 1 => Pipeline.cellsGhost cfgs EP p d : sProp 𝕄)
        = bigSep Finset.univ fun d : Dev nD => Pipeline.cellsGhost cfgs EP 0 d from bigSep_congr fun d _ => bigSep_univ_of_subsingleton (0 : Fin 1)))
      iexact HC
    iapply (Entails.of_eq (show (bigSep Finset.univ fun d : Dev nD => bigSep Finset.univ fun p : Fin 1 => Pipeline.toksInit cfgs EP p d : sProp 𝕄)
      = bigSep Finset.univ fun d : Dev nD => Pipeline.toksInit cfgs EP 0 d from bigSep_congr fun d _ => bigSep_univ_of_subsingleton (0 : Fin 1)))
    iexact HT
  rw [show (bigSep Finset.univ fun thr : Thread nD τ => bigSep Finset.univ fun q : Fin 1 => (P (F := F) X Y W).x q thr) = bigSep Finset.univ fun _ => iprop(emp) from
    bigSep_congr fun _ _ => bigSep_univ_of_subsingleton (0 : Fin 1), bigSep_emp']
  iempintro

end Cert.Proof.PI

end
-- ==== Proof.PI.Region.lean ====
/-
  The TensorCore's call: one point over six whole-array windows — the tiles' sums, the day column, three scalars, and
  the three results. Its body run once, its proof data, and its region over every unscoped buffer at a valuation.
-/
module

public import proofs.«01_k».proof.Proof.PI.Launch
public import proofs.«01_k».proof.Proof.Gen.KernelIdeal.Points
public import Idealize.ShloMosaic.Lib.Pipeline.RegionsLoop
public import Idealize.ShloMosaic.Lib.Pipeline.ValueKit.Geometry

@[expose] public section

noncomputable section

namespace Cert.Proof.PI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type}

local notation "𝕄" => MT nD τ sig (HIx 1) (Elt F) ℕ UU ℕ

/-- A memref's buffer on the TensorCore of device `c`, held whole at `f`. -/
abbrev pt (c : Dev nD) {sp : Space} {S : Shape} {e : EltTy} (M : Memref sig .tc sp S e) (f : Buf (Elt F) (M.view.loc (T c : Thread nD τ))) : sProp 𝕄 :=
  M.view.loc (T c : Thread nD τ) ↦{fullShare} f

variable [FloatOps F]

/-! ## The body -/

/-- The sum of the logarithms of the intensities, from the sums `kers` and the scalars `sc`. -/
def tcLams1 (kers : S256x128.Idx → F .f32) (sc : S3.Idx → F .f32) : F .f32 := k1_pay1 (sc (ix 3 0)) kers
/-- The compensator, from the day column and the scalars. -/
def tcLams2 (days : S256x128.Idx → F .f32) (sc : S3.Idx → F .f32) : F .f32 := k1_pay2 (sc (ix 3 0)) (sc (ix 3 1)) (sc (ix 3 2)) days
/-- The log-likelihood. -/
def tcLl (kers days : S256x128.Idx → F .f32) (sc : S3.Idx → F .f32) : F .f32 :=
  k1_pay3 (sc (ix 3 0)) (sc (ix 3 1)) (sc (ix 3 2)) kers days

omit [FloatOps F] in
/-- A scalar read is the scalars' word at its place. -/
theorem rd_word (f : S3.Idx → F .f32) (off : Fin 1 → ℕ) (inb : ∀ a, off a + S1.size a ≤ S3.size a) (k : ℕ) (h : off = ![k])
    (hp : 0 < (Rect.unit (s := S3) off S1.size inb).toLoadRect.shape.numel) :
    (stage1_2 0).view.readAt (Elt F) (Rect.unit (s := S3) off S1.size inb).toLoadRect f (Shape.Idx.first hp) = f (ix 3 k) := by
  subst h
  refine congrArg f (funext fun a => Fin.ext ?_)
  have h0 : k + 1 ≤ 3 := inb 0
  match a with
  | 0 =>
    refine (Rect.emb_apply _ _ _).trans ?_
    have h1 : (Shape.Idx.first hp 0).val < 1 := (Shape.Idx.first hp 0).isLt
    show k + 1 * (Shape.Idx.first hp 0).val = k % 3
    rw [Nat.mod_eq_of_lt (by omega)]; omega

omit [FloatOps F] in
/-- A load of a whole block reads the block. -/
theorem rd_block (M : Memref sig .tc .vmem S256x128 .f32) (f : M.view.ty.Contents (Elt F)) :
    M.view.readAt (Elt F) (Rect.unit (s := S256x128) ![0, 0] S256x128.size inb_S256x128_S256x128_0_0).toLoadRect f = M.view.read (Elt F) f := by
  funext j
  refine congrArg (M.view.read (Elt F) f) (funext fun a => Fin.ext ?_)
  refine (Rect.emb_apply _ _ _).trans ?_
  match a with
  | 0 => show 0 + 1 * (j 0).val = (j 0).val; omega
  | 1 => show 0 + 1 * (j 1).val = (j 1).val; omega

omit [FloatOps F] in
/-- A word stored in a one-word buffer is its contents. -/
theorem wr_word (M : Memref sig .tc .smem S1x1 .f32) (f : M.view.ty.Contents (Elt F)) (v : F .f32) :
    M.view.read (Elt F) (M.view.writes (Elt F) f [⟨Rect.unit (s := S1x1) ![0, 0] ![1, 1] inb_S1x1_S1x1_0_0, fun _ => v⟩]) = fun _ => v := by
  funext y
  refine View.read_writes_apply_of_pieces (Val := Elt F) (e := .f32) M.view f (fun _ => v) _ (fun p hp x => ?_) y ⟨_, List.mem_singleton_self _, ?_⟩
  · obtain rfl := List.mem_singleton.mp hp; rfl
  · show y ∈ (Rect.unit (s := S1x1) ![0, 0] ![1, 1] inb_S1x1_S1x1_0_0).set
    revert y; decide

/-- The body leaves in the three results' staging buffers the three values, its operands' as they were. -/
theorem tc_run (c : Dev nD) (f0 f1 : S256x128.Idx → F .f32) (f2 : S3.Idx → F .f32) (f3 f4 f5 : S1x1.Idx → F .f32) (E : Set ℕ) (Q : PUnit → sProp 𝕄) :
    iprop(pt c (stage1_0 0) f0 ∗ pt c (stage1_1 0) f1 ∗ pt c (stage1_2 0) f2
        ∗ pt c (stage1_3 0) f3 ∗ pt c (stage1_4 0) f4 ∗ pt c (stage1_5 0) f5
        ∗ (iprop(pt c (stage1_0 0) f0 ∗ pt c (stage1_1 0) f1 ∗ pt c (stage1_2 0) f2
            ∗ pt c (stage1_3 0) (fun _ => tcLl f0 f1 f2) ∗ pt c (stage1_4 0) (fun _ => tcLams1 f0 f2) ∗ pt c (stage1_5 0) (fun _ => tcLams2 f1 f2)) -∗ Q ⟨⟩))
      ⊢ wp frame (wpE (defs₀ (F := F)) 𝒱₀ (T c) none) E
          (cc1__tc_reduce_body (stage1_0 0) (hstage1_0 0) (stage1_1 0) (hstage1_1 0) (stage1_2 0) (hstage1_2 0)
            (stage1_3 0) (hstage1_3 0) (stage1_4 0) (hstage1_4 0) (stage1_5 0) (hstage1_5 0)) Q := by
  simp only [cc1__tc_reduce_body_eq_skeleton]; unfold cc1__tc_reduce_body_skel
  simp only [k1_part1_eq_skeleton]; unfold k1_part1_skel
  iintro ⟨H0, H1, H2, H3, H4, H5, Hk⟩
  sl_exec
  sl_step
  iapply Hk
  isplitl [H0]; · iexact H0
  isplitl [H1]; · iexact H1
  isplitl [H2]; · iexact H2
  have e0 := rd_block (F := F) (stage1_0 0) f0
  have e1 := rd_block (F := F) (stage1_1 0) f1
  have r0 : tc_run.sl.r f2 = f2 (ix 3 0) := rd_word f2 _ inb_S3_S1_0 0 rfl _
  have r1 : tc_run.sl.r_1 f2 = f2 (ix 3 1) := rd_word f2 _ inb_S3_S1_1 1 rfl _
  have r2 : tc_run.sl.r_2 f2 = f2 (ix 3 2) := rd_word f2 _ inb_S3_S1_2 2 rfl _
  rw [e0, e1, r0, r1, r2]
  isplitl [H3]; · rw [show pt c (stage1_3 0) (fun _ => tcLl f0 f1 f2) = pt c (stage1_3 0) _ from congrArg (pt c (stage1_3 0)) (wr_word (stage1_3 0) f3 (tcLl f0 f1 f2)).symm]; iexact H3
  isplitl [H4]; · rw [show pt c (stage1_4 0) (fun _ => tcLams1 f0 f2) = pt c (stage1_4 0) _ from congrArg (pt c (stage1_4 0)) (wr_word (stage1_4 0) f4 (tcLams1 f0 f2)).symm]; iexact H4
  rw [show pt c (stage1_5 0) (fun _ => tcLams2 f1 f2) = pt c (stage1_5 0) _ from congrArg (pt c (stage1_5 0)) (wr_word (stage1_5 0) f5 (tcLams2 f1 f2)).symm]; iexact H5

/-! ## The proof data, at an entry valuation -/

variable (V : (c : Dev nD) → (b : Ref sig .tc) → Buf (Elt F) ((T c : Thread nD τ).loc b))

/-- The operands' blocks as the fetches stage them: whole arrays. -/
abbrev stg0 (c : Dev nD) : S256x128.Idx → F .f32 := ((cfg1.win 0).blk t1_0).view.read (Elt F) (V c main_v49)
/-- The second operand's. -/
abbrev stg1 (c : Dev nD) : S256x128.Idx → F .f32 := ((cfg1.win 1).blk t1_0).view.read (Elt F) (V c main_v50)
/-- The third operand's. -/
abbrev stg2 (c : Dev nD) : S3.Idx → F .f32 := ((cfg1.win 2).blk t1_0).view.read (Elt F) (V c main_v48)

/-- The scoped buffers the call does not stage. -/
abbrev Φc (c : Dev nD) : sProp 𝕄 := Pipeline.scopedRest (Ix := HIx 1) (Name := ℕ) (U := UU) (Lvl := ℕ) (Val := Elt F) spec1 c

/-- The waits whose level is that of the first call's end at most. -/
def lowWaits (c : Dev nD) : Set (SemLoc sig × HIx 1) := {p | (K (F := F)).lev (T c, p.1) p.2 ≤ 8}

/-- The call's proof data from a valuation: the arrays at it; after the body the operands' buffers as fetched and the
    results' at the three values; nothing owed, full shares, every recorded wait low. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => fun _ => tcLl (stg0 V c) (stg1 V c) (stg2 V c)
    | ⟨4, _⟩ => fun _ => tcLams1 (stg0 V c) (stg2 V c)
    | ⟨5, _⟩ => fun _ => tcLams2 (stg1 V c) (stg2 V c)
  Φ _ := Φc c
  q _ := fullShare
  owed _ := 0
  recorded _ := lowWaits (F := F) c

/-- No call has prefetched tables. -/
abbrev adm : (p : Fin 1) → (pcfgs (F := F) p).Adm := fun p => (cfgs p).toPCfg_adm
/-- The one call's proof data. -/
def pdats : (p : Fin 1) → (c : Dev nD) → Dat τ (Elt F) (HIx 1) ℕ UU ℕ (Pipeline.pin (pcfgs (F := F)) adm p) c
  | ⟨0, _⟩ => fun c => dat V c

/-- The fetched windows' buffers hold their blocks when the body runs. -/
theorem before0 (c : Dev nD) (d : (cfg1.win 0).block.Idx → Elt F (cfg1.win 0).elt) : (dat V c).before 0 t1_0 d = stg0 V c := by
  unfold Dat.before; rw [if_pos (by decide)]; rfl
/-- The second. -/
theorem before1 (c : Dev nD) (d : (cfg1.win 1).block.Idx → Elt F (cfg1.win 1).elt) : (dat V c).before 1 t1_0 d = stg1 V c := by
  unfold Dat.before; rw [if_pos (by decide)]; rfl
/-- The third. -/
theorem before2 (c : Dev nD) (d : (cfg1.win 2).block.Idx → Elt F (cfg1.win 2).elt) : (dat V c).before 2 t1_0 d = stg2 V c := by
  unfold Dat.before; rw [if_pos (by decide)]; rfl

/-- The body's obligation at the one point. -/
theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  rw [before0] at hf0; rw [before1] at hf1; rw [before2] at hf2
  subst hf0; subst hf1; subst hf2
  iapply (tc_run c (stg0 V c) (stg1 V c) (stg2 V c) f3 f4 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-! ## The arrays after the call -/

/-- The results' arrays after the call. -/
theorem arr_ll (c : Dev nD) : (dat V c).arrAt 3 cfg1.N = (fun _ => tcLl (stg0 V c) (stg1 V c) (stg2 V c) : S1x1.Idx → F .f32) :=
  Pipeline.Dat.arrAt_eq_of_after_last _ 3 t1_0 (by decide +kernel) _ fun _ => rfl
/-- The second result's array holds the first sum. -/
theorem arr_lams1 (c : Dev nD) : (dat V c).arrAt 4 cfg1.N = (fun _ => tcLams1 (stg0 V c) (stg2 V c) : S1x1.Idx → F .f32) :=
  Pipeline.Dat.arrAt_eq_of_after_last _ 4 t1_0 (by decide +kernel) _ fun _ => rfl
/-- The third result's array holds the second sum. -/
theorem arr_lams2 (c : Dev nD) : (dat V c).arrAt 5 cfg1.N = (fun _ => tcLams2 (stg1 V c) (stg2 V c) : S1x1.Idx → F .f32) :=
  Pipeline.Dat.arrAt_eq_of_after_last _ 5 t1_0 (by decide +kernel) _ fun _ => rfl

omit [FloatOps F] in
/-- A staged operand is its array. -/
theorem stg0_eq (c : Dev nD) : stg0 V c = (V c main_v49 : S256x128.Idx → F .f32) := by
  funext j
  refine congrArg (V c main_v49 : S256x128.Idx → F .f32) (funext fun a => Fin.ext ?_)
  refine (Rect.emb_apply _ _ _).trans ?_
  match a with
  | 0 => show 0 * _ + 1 * (j 0).val = (j 0).val; omega
  | 1 => show 0 * _ + 1 * (j 1).val = (j 1).val; omega
omit [FloatOps F] in
/-- The second staged operand is its array. -/
theorem stg1_eq (c : Dev nD) : stg1 V c = (V c main_v50 : S256x128.Idx → F .f32) := by
  funext j
  refine congrArg (V c main_v50 : S256x128.Idx → F .f32) (funext fun a => Fin.ext ?_)
  refine (Rect.emb_apply _ _ _).trans ?_
  match a with
  | 0 => show 0 * _ + 1 * (j 0).val = (j 0).val; omega
  | 1 => show 0 * _ + 1 * (j 1).val = (j 1).val; omega
omit [FloatOps F] in
/-- The third staged operand is its array. -/
theorem stg2_eq (c : Dev nD) : stg2 V c = (V c main_v48 : S3.Idx → F .f32) := by
  funext j
  refine congrArg (V c main_v48 : S3.Idx → F .f32) (funext fun a => Fin.ext ?_)
  refine (Rect.emb_apply _ _ _).trans ?_
  match a with
  | 0 => show 0 * _ + 1 * (j 0).val = (j 0).val; omega

/-! ## The region -/

/-- The valuation the call leaves: its three results written. -/
def Vp (c : Dev nD) (b : Ref sig .tc) : Buf (Elt F) ((T c : Thread nD τ).loc b) :=
  if h : b = main_v51_0 then h ▸ (dat V c).arrAt 3 cfg1.N
  else if h : b = main_v51_1 then h ▸ (dat V c).arrAt 4 cfg1.N
  else if h : b = main_v51_2 then h ▸ (dat V c).arrAt 5 cfg1.N
  else V c b

set_option backward.isDefEq.respectTransparency.types false in
/-- The call's region over every unscoped buffer at `V`, and what is owed: nothing, its recorded waits low. -/
def reg : Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜↑W ⊆ lowWaits (F := F) c⌝ ∗ owes (T c : Thread nD τ) (0 : CellTallies nD τ sig (HIx 1)) W)
  post c := iprop(unscopedBufs c (Vp V c) ∗ ∃ W, ⌜↑W ⊆ lowWaits (F := F) c⌝ ∗ owes (T c : Thread nD τ) (0 : CellTallies nD τ sig (HIx 1)) W)
  X _ := BI.emp
  Y _ := BI.emp
  Z c := Pipeline.unscopedRest spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp V c) ((pdats V 0 c).arrAt · cfg1.N)
      (fun w => by
        fin_cases w
        · exact ((pdats V 0 c).arrAt_in 0 rfl _)
        · exact ((pdats V 0 c).arrAt_in 1 rfl _)
        · exact ((pdats V 0 c).arrAt_in 2 rfl _)
        · rfl
        · rfl
        · rfl)
      (fun b hb => by
        have h0 : b ≠ main_v51_0 := fun h => hb (h ▸ Finset.mem_image.mpr ⟨3, Finset.mem_univ _, rfl⟩)
        have h1 : b ≠ main_v51_1 := fun h => hb (h ▸ Finset.mem_image.mpr ⟨4, Finset.mem_univ _, rfl⟩)
        have h2 : b ≠ main_v51_2 := fun h => hb (h ▸ Finset.mem_image.mpr ⟨5, Finset.mem_univ _, rfl⟩)
        simp only [Vp, h0, h1, h2, dite_false])
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨w, s, h⟩
    · exact h
    · subst h
      exact Nat.zero_le _

end Cert.Proof.PI

end
-- ==== Proof.PI.Main.lean ====
/-
  The program's own line: the host operations before, between and after its two calls, each call's buffers taken out of
  the whole memory and put back, and the program's run with what every buffer holds at the end.
-/
module

public import proofs.«01_k».proof.Proof.PI.Region
public import Idealize.ShloMosaic.Lib.Pipeline.Frame

@[expose] public section

noncomputable section

namespace Cert.Proof.PI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq)

variable {F : FTy → Type}

local notation "𝕄" => MT nD τ sig (HIx 1) (Elt F) ℕ UU ℕ

variable [FloatOps F]

/-! ## The host operations -/

/-- The operations before the SparseCore call. -/
def preOps : List (HloOp τ sig (Elt F)) := [
    StableHlo.reshape main_arg1 main_v0 (rfl : (.f32 : EltTy) = .f32) shapeCasts_S1_S_,
    StableHlo.reshape main_arg2 main_v1 (rfl : (.f32 : EltTy) = .f32) shapeCasts_S1_S_,
    StableHlo.reshape main_arg3 main_v2 (rfl : (.f32 : EltTy) = .f32) shapeCasts_S1_S_,
    StableHlo.reshape main_arg4 main_v3 (rfl : (.f32 : EltTy) = .f32) shapeCasts_S1_S_,
    StableHlo.unary main_arg0 main_v4 ((extractStridedSlice S32768x1 ![0, 0] · slices_S32768x3_S32768x1_0_0) : (⟨S32768x3, .f32⟩ : BufTy).Contents (Elt F) → (⟨S32768x1, .f32⟩ : BufTy).Contents (Elt F)),
    StableHlo.reshape main_v4 main_v5 (rfl : (.f32 : EltTy) = .f32) shapeCasts_S32768x1_S32768,
    StableHlo.nullary main_cst (constant S_ .f32 0x40000000#32),
    StableHlo.unary main_cst main_v6 (Host.sqrt : (⟨S_, .f32⟩ : BufTy).Contents (Elt F) → (⟨S_, .f32⟩ : BufTy).Contents (Elt F)),
    StableHlo.unary main_v6 main_v7 (id : (⟨S_, .f32⟩ : BufTy).Contents (Elt F) → (⟨S_, .f32⟩ : BufTy).Contents (Elt F)),
    StableHlo.binary main_v7 main_v3 main_v8 (mulf : (⟨S_, .f32⟩ : BufTy).Contents (Elt F) → (⟨S_, .f32⟩ : BufTy).Contents (Elt F) → (⟨S_, .f32⟩ : BufTy).Contents (Elt F)),
    StableHlo.nullary main_cst_0 (constant S_ .f32 0x3F800000#32),
    StableHlo.binary main_cst_0 main_v8 main_v9 (Host.divf : (⟨S_, .f32⟩ : BufTy).Contents (Elt F) → (⟨S_, .f32⟩ : BufTy).Contents (Elt F) → (⟨S_, .f32⟩ : BufTy).Contents (Elt F)),
    StableHlo.unary main_arg0 main_v10 ((extractStridedSlice S32768x1 ![0, 1] · slices_S32768x3_S32768x1_0_1) : (⟨S32768x3, .f32⟩ : BufTy).Contents (Elt F) → (⟨S32768x1, .f32⟩ : BufTy).Contents (Elt F)),
    StableHlo.reshape main_v10 main_v11 (rfl : (.f32 : EltTy) = .f32) shapeCasts_S32768x1_S32768,
    StableHlo.unary main_v9 main_v12 (broadcastInDim S32768 ![] bcast_S_S32768 : (⟨S_, .f32⟩ : BufTy).Contents (Elt F) → (⟨S32768, .f32⟩ : BufTy).Contents (Elt F)),
    StableHlo.binary main_v11 main_v12 main_v13 (mulf : (⟨S32768, .f32⟩ : BufTy).Contents (Elt F) → (⟨S32768, .f32⟩ : BufTy).Contents (Elt F) → (⟨S32768, .f32⟩ : BufTy).Contents (Elt F)),
    StableHlo.unary main_arg0 main_v14 ((extractStridedSlice S32768x1 ![0, 2] · slices_S32768x3_S32768x1_0_2) : (⟨S32768x3, .f32⟩ : BufTy).Contents (Elt F) → (⟨S32768x1, .f32⟩ : BufTy).Contents (Elt F)),
    StableHlo.reshape main_v14 main_v15 (rfl : (.f32 : EltTy) = .f32) shapeCasts_S32768x1_S32768,
    StableHlo.unary main_v9 main_v16 (broadcastInDim S32768 ![] bcast_S_S32768 : (⟨S_, .f32⟩ : BufTy).Contents (Elt F) → (⟨S32768, .f32⟩ : BufTy).Contents (Elt F)),
    StableHlo.binary main_v15 main_v16 main_v17 (mulf : (⟨S32768, .f32⟩ : BufTy).Contents (Elt F) → (⟨S32768, .f32⟩ : BufTy).Contents (Elt F) → (⟨S32768, .f32⟩ : BufTy).Contents (Elt F)),
    StableHlo.nullary main_cst_1 (constant S_ .f32 0x00000000#32),
    StableHlo.unary main_cst_1 main_v18 (broadcastInDim S2048 ![] bcast_S_S2048 : (⟨S_, .f32⟩ : BufTy).Contents (Elt F) → (⟨S2048, .f32⟩ : BufTy).Contents (Elt F)),
    StableHlo.binary main_v18 main_v13 main_v19 ((fun a b => concatenate S34816 0 [⟨S2048, a⟩, ⟨S32768, b⟩] concatenates_S2048_S32768_S34816_d0) : (⟨S2048, .f32⟩ : BufTy).Contents (Elt F) → (⟨S32768, .f32⟩ : BufTy).Contents (Elt F) → (⟨S34816, .f32⟩ : BufTy).Contents (Elt F)),
    StableHlo.binary main_v18 main_v17 main_v20 ((fun a b => concatenate S34816 0 [⟨S2048, a⟩, ⟨S32768, b⟩] concatenates_S2048_S32768_S34816_d0) : (⟨S2048, .f32⟩ : BufTy).Contents (Elt F) → (⟨S32768, .f32⟩ : BufTy).Contents (Elt F) → (⟨S34816, .f32⟩ : BufTy).Contents (Elt F)),
    StableHlo.nullary main_cst_2 (constant S_ .f32 0x40C90FDB#32),
    StableHlo.binary main_cst_2 main_v3 main_v21 (mulf : (⟨S_, .f32⟩ : BufTy).Contents (Elt F) → (⟨S_, .f32⟩ : BufTy).Contents (Elt F) → (⟨S_, .f32⟩ : BufTy).Contents (Elt F)),
    StableHlo.binary main_v21 main_v3 main_v22 (mulf : (⟨S_, .f32⟩ : BufTy).Contents (Elt F) → (⟨S_, .f32⟩ : BufTy).Contents (Elt F) → (⟨S_, .f32⟩ : BufTy).Contents (Elt F)),
    StableHlo.nullary main_cst_3 (constant S_ .f32 0x3F800000#32),
    StableHlo.binary main_cst_3 main_v22 main_v23 (Host.divf : (⟨S_, .f32⟩ : BufTy).Contents (Elt F) → (⟨S_, .f32⟩ : BufTy).Contents (Elt F) → (⟨S_, .f32⟩ : BufTy).Contents (Elt F)),
    StableHlo.nullary main_v24 (sitofp .f32 (iotaInDim S32 32 0)),
    StableHlo.nullary main_cst_4 (constant S_ .f32 0x3F800000#32),
    StableHlo.unary main_cst_4 main_v25 (broadcastInDim S32 ![] bcast_S_S32 : (⟨S_, .f32⟩ : BufTy).Contents (Elt F) → (⟨S32, .f32⟩ : BufTy).Contents (Elt F)),
    StableHlo.binary main_v25 main_v24 main_v26 (addf : (⟨S32, .f32⟩ : BufTy).Contents (Elt F) → (⟨S32, .f32⟩ : BufTy).Contents (Elt F) → (⟨S32, .f32⟩ : BufTy).Contents (Elt F)),
    StableHlo.binary main_v1 main_v2 main_v27 (mulf : (⟨S_, .f32⟩ : BufTy).Contents (Elt F) → (⟨S_, .f32⟩ : BufTy).Contents (Elt F) → (⟨S_, .f32⟩ : BufTy).Contents (Elt F)),
    StableHlo.unary main_v2 main_v28 (Host.negf : (⟨S_, .f32⟩ : BufTy).Contents (Elt F) → (⟨S_, .f32⟩ : BufTy).Contents (Elt F)),
    StableHlo.unary main_v28 main_v29 (broadcastInDim S32 ![] bcast_S_S32 : (⟨S_, .f32⟩ : BufTy).Contents (Elt F) → (⟨S32, .f32⟩ : BufTy).Contents (Elt F)),
    StableHlo.binary main_v29 main_v26 main_v30 (mulf : (⟨S32, .f32⟩ : BufTy).Contents (Elt F) → (⟨S32, .f32⟩ : BufTy).Contents (Elt F) → (⟨S32, .f32⟩ : BufTy).Contents (Elt F)),
    StableHlo.unary main_v30 main_v31 (Host.exp : (⟨S32, .f32⟩ : BufTy).Contents (Elt F) → (⟨S32, .f32⟩ : BufTy).Contents (Elt F)),
    StableHlo.unary main_v27 main_v32 (broadcastInDim S32 ![] bcast_S_S32 : (⟨S_, .f32⟩ : BufTy).Contents (Elt F) → (⟨S32, .f32⟩ : BufTy).Contents (Elt F)),
    StableHlo.binary main_v32 main_v31 main_v33 (mulf : (⟨S32, .f32⟩ : BufTy).Contents (Elt F) → (⟨S32, .f32⟩ : BufTy).Contents (Elt F) → (⟨S32, .f32⟩ : BufTy).Contents (Elt F)),
    StableHlo.unary main_v23 main_v34 (broadcastInDim S32 ![] bcast_S_S32 : (⟨S_, .f32⟩ : BufTy).Contents (Elt F) → (⟨S32, .f32⟩ : BufTy).Contents (Elt F)),
    StableHlo.binary main_v33 main_v34 main_v35 (mulf : (⟨S32, .f32⟩ : BufTy).Contents (Elt F) → (⟨S32, .f32⟩ : BufTy).Contents (Elt F) → (⟨S32, .f32⟩ : BufTy).Contents (Elt F)),
    StableHlo.unary main_v35 main_v36 (broadcastInDim S32x16 ![0] bcast_S32_S32x16_0 : (⟨S32, .f32⟩ : BufTy).Contents (Elt F) → (⟨S32x16, .f32⟩ : BufTy).Contents (Elt F)),
    StableHlo.reshape main_v36 main_v37 (rfl : (.f32 : EltTy) = .f32) shapeCasts_S32x16_S512
  ]

/-- The operations between the SparseCore call and the TensorCore call. -/
def midOps : List (HloOp τ sig (Elt F)) := [
    StableHlo.unary main_v2 main_v39 (Host.negf : (⟨S_, .f32⟩ : BufTy).Contents (Elt F) → (⟨S_, .f32⟩ : BufTy).Contents (Elt F)),
    StableHlo.unary main_v39 main_v40 (Host.exp : (⟨S_, .f32⟩ : BufTy).Contents (Elt F) → (⟨S_, .f32⟩ : BufTy).Contents (Elt F)),
    StableHlo.binary main_v1 main_v2 main_v41 (mulf : (⟨S_, .f32⟩ : BufTy).Contents (Elt F) → (⟨S_, .f32⟩ : BufTy).Contents (Elt F) → (⟨S_, .f32⟩ : BufTy).Contents (Elt F)),
    StableHlo.binary main_v41 main_v40 main_v42 (mulf : (⟨S_, .f32⟩ : BufTy).Contents (Elt F) → (⟨S_, .f32⟩ : BufTy).Contents (Elt F) → (⟨S_, .f32⟩ : BufTy).Contents (Elt F)),
    StableHlo.nullary main_cst_5 (constant S_ .f32 0x3F800000#32),
    StableHlo.binary main_cst_5 main_v40 main_v43 (subf : (⟨S_, .f32⟩ : BufTy).Contents (Elt F) → (⟨S_, .f32⟩ : BufTy).Contents (Elt F) → (⟨S_, .f32⟩ : BufTy).Contents (Elt F)),
    StableHlo.binary main_v42 main_v43 main_v44 (Host.divf : (⟨S_, .f32⟩ : BufTy).Contents (Elt F) → (⟨S_, .f32⟩ : BufTy).Contents (Elt F) → (⟨S_, .f32⟩ : BufTy).Contents (Elt F)),
    StableHlo.unary main_v0 main_v45 (broadcastInDim S1 ![] bcast_S_S1 : (⟨S_, .f32⟩ : BufTy).Contents (Elt F) → (⟨S1, .f32⟩ : BufTy).Contents (Elt F)),
    StableHlo.unary main_v2 main_v46 (broadcastInDim S1 ![] bcast_S_S1 : (⟨S_, .f32⟩ : BufTy).Contents (Elt F) → (⟨S1, .f32⟩ : BufTy).Contents (Elt F)),
    StableHlo.unary main_v44 main_v47 (broadcastInDim S1 ![] bcast_S_S1 : (⟨S_, .f32⟩ : BufTy).Contents (Elt F) → (⟨S1, .f32⟩ : BufTy).Contents (Elt F)),
    StableHlo.nary ![main_v45, main_v46, main_v47] main_v48 (fun u => (concatenate S3 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩] concatenates_S1_S1_S1_S3_d0 : (⟨S3, .f32⟩ : BufTy).Contents (Elt F))),
    StableHlo.reshape main_v38 main_v49 (rfl : (.f32 : EltTy) = .f32) shapeCasts_S32768_S256x128,
    StableHlo.reshape main_v5 main_v50 (rfl : (.f32 : EltTy) = .f32) shapeCasts_S32768_S256x128
  ]

/-- The operations after the TensorCore call. -/
def tailOps : List (HloOp τ sig (Elt F)) := [
    StableHlo.reshape main_v51_0 main_v52 (rfl : (.f32 : EltTy) = .f32) shapeCasts_S1x1_S_,
    StableHlo.reshape main_v51_1 main_v53 (rfl : (.f32 : EltTy) = .f32) shapeCasts_S1x1_S_,
    StableHlo.reshape main_v51_2 main_v54 (rfl : (.f32 : EltTy) = .f32) shapeCasts_S1x1_S_
  ]

/-- The TensorCore call. -/
def tcCall : Prog (TpuEff nD τ sig (Elt F) (ΛP (F := F)) .tc) PUnit := .op (.customCall (Pipeline.entry 0) ()) fun _ => .ret ⟨⟩
/-- The TensorCore call, among the launch's labels. -/
theorem tcCall_lift : (SparseCore.liftProg (tcCall (F := F)) : Prog (TpuEff nD τ sig (Elt F) (SparseCore.Sig (ΛP (F := F)) 1) .tc) PUnit)
    = Prog.lift (.customCall (SparseCore.inner (Pipeline.entry 0)) ()) := rfl

/-- The program is its three lines around its two calls. -/
theorem main_eq (d : Dev nD) : main (F := F) d
    = seq preOps >>= fun _ => sc.run d 0 >>= fun _ => seq midOps >>= fun _ =>
        SparseCore.liftProg (tcCall (F := F)) >>= fun _ => seq tailOps >>= fun _ => pure ⟨⟩ := by
  simp only [tcCall_lift, main, main_part0, main_part1, preOps, midOps, tailOps, seq, bind_assoc, pure_bind]

/-- The first line touches unscoped buffers only. -/
theorem preOps_bufs : ∀ op ∈ preOps (F := F), op.bufs ⊆ Pipeline.ucRefs τ sig := fun op h =>
  Pipeline.sub_ucRefs op ((List.forall_iff_forall_mem.mp (show (preOps (F := F)).Forall fun op => op.bufs ⊆ StableHlo.tcRefs τ sig by
    simp only [preOps, List.Forall, StableHlo.nullary_bufs_sub, StableHlo.unary_bufs_sub, StableHlo.binary_bufs_sub, StableHlo.reshape_bufs_sub, and_self])) op h)
/-- So does the middle line. -/
theorem midOps_bufs : ∀ op ∈ midOps (F := F), op.bufs ⊆ Pipeline.ucRefs τ sig := fun op h =>
  Pipeline.sub_ucRefs op ((List.forall_iff_forall_mem.mp (show (midOps (F := F)).Forall fun op => op.bufs ⊆ StableHlo.tcRefs τ sig by
    simp only [midOps, List.Forall, StableHlo.nullary_bufs_sub, StableHlo.unary_bufs_sub, StableHlo.binary_bufs_sub, StableHlo.reshape_bufs_sub, StableHlo.nary_bufs_sub, and_self])) op h)
/-- So does the last line. -/
theorem tailOps_bufs : ∀ op ∈ tailOps (F := F), op.bufs ⊆ Pipeline.ucRefs τ sig := fun op h =>
  Pipeline.sub_ucRefs op ((List.forall_iff_forall_mem.mp (show (tailOps (F := F)).Forall fun op => op.bufs ⊆ StableHlo.tcRefs τ sig by
    simp only [tailOps, List.Forall, StableHlo.reshape_bufs_sub, and_self])) op h)
/-- The first line allocates nothing. -/
theorem preOps_fresh : ∀ op ∈ preOps (F := F), op.fresh = ∅ :=
  List.forall_iff_forall_mem.mp (StableHlo.forall_fresh_of_map rfl)
/-- Nor does the middle line. -/
theorem midOps_fresh : ∀ op ∈ midOps (F := F), op.fresh = ∅ :=
  List.forall_iff_forall_mem.mp (StableHlo.forall_fresh_of_map rfl)
/-- Nor does the last line. -/
theorem tailOps_fresh : ∀ op ∈ tailOps (F := F), op.fresh = ∅ :=
  List.forall_iff_forall_mem.mp (StableHlo.forall_fresh_of_map rfl)

/-- What `preOps` writes. -/
def preW : List (Ref sig .tc) := [main_v0, main_v1, main_v2, main_v3, main_v4, main_v5, main_cst, main_v6, main_v7, main_v8, main_cst_0, main_v9, main_v10, main_v11, main_v12, main_v13, main_v14, main_v15, main_v16, main_v17, main_cst_1, main_v18, main_v19, main_v20, main_cst_2, main_v21, main_v22, main_cst_3, main_v23, main_v24, main_cst_4, main_v25, main_v26, main_v27, main_v28, main_v29, main_v30, main_v31, main_v32, main_v33, main_v34, main_v35, main_v36, main_v37]
/-- `preOps` writes nothing else. -/
theorem preOps_writes : (preOps (F := F)).Forall fun op => op.writes ⊆ (preW.map (Proc.devRef (τ := τ) .tc)).toFinset :=
  StableHlo.forall_writes_sub_of_map rfl
/-- What `midOps` writes. -/
def midW : List (Ref sig .tc) := [main_v39, main_v40, main_v41, main_v42, main_cst_5, main_v43, main_v44, main_v45, main_v46, main_v47, main_v48, main_v49, main_v50]
/-- `midOps` writes nothing else. -/
theorem midOps_writes : (midOps (F := F)).Forall fun op => op.writes ⊆ (midW.map (Proc.devRef (τ := τ) .tc)).toFinset :=
  StableHlo.forall_writes_sub_of_map rfl
/-- What `tailOps` writes. -/
def tailW : List (Ref sig .tc) := [main_v52, main_v53, main_v54]
/-- `tailOps` writes nothing else. -/
theorem tailOps_writes : (tailOps (F := F)).Forall fun op => op.writes ⊆ (tailW.map (Proc.devRef (τ := τ) .tc)).toFinset :=
  StableHlo.forall_writes_sub_of_map rfl

/-! ## What every buffer holds along the line -/

section Values

variable (m : (ℓ : Loc nD τ sig) → Buf (Elt F) ℓ)

/-- A reference of the TensorCore's, as the device's buffer. -/
abbrev rf (b : Ref sig .tc) : DevRef τ sig := Proc.devRef .tc b

/-- At the launch. -/
def V0 (d : Dev nD) : Valuation τ sig (Elt F) := fun b => m (d, b)
/-- Before the SparseCore call. -/
def V1 (d : Dev nD) : Valuation τ sig (Elt F) := after preOps (V0 m d)
/-- The padded scaled abscissas, as the SparseCore call finds them. -/
def XV (d : Dev nD) : S34816.Idx → F .f32 := V1 m d (rf main_v19)
/-- The padded scaled ordinates. -/
def YV (d : Dev nD) : S34816.Idx → F .f32 := V1 m d (rf main_v20)
/-- The weights. -/
def WV (d : Dev nD) : S512.Idx → F .f32 := V1 m d (rf main_v37)
/-- After the SparseCore call: its sums are in their buffer. -/
def V2 (d : Dev nD) : Valuation τ sig (Elt F) := Function.update (V1 m d) (rf main_v38) (outVal (XV m d) (YV m d) (WV m d))
/-- Before the TensorCore call. -/
def V3 (d : Dev nD) : Valuation τ sig (Elt F) := after midOps (V2 m d)
/-- The same by the TensorCore's references. -/
def U3 (c : Dev nD) (b : Ref sig .tc) : Buf (Elt F) ((T c : Thread nD τ).loc b) := V3 m c (rf b)
/-- After the TensorCore call: its three results are in their buffers. -/
def V4 (d : Dev nD) : Valuation τ sig (Elt F) :=
  Function.update (Function.update (Function.update (V3 m d)
    (rf main_v51_2) ((dat (U3 m) d).arrAt 5 cfg1.N)) (rf main_v51_1) ((dat (U3 m) d).arrAt 4 cfg1.N)) (rf main_v51_0) ((dat (U3 m) d).arrAt 3 cfg1.N)
/-- At the end. -/
def V5 (d : Dev nD) : Valuation τ sig (Elt F) := after tailOps (V4 m d)

/-- What the TensorCore call leaves, reference by reference, is the fourth valuation. -/
theorem Vp_eq (d : Dev nD) (b : Ref sig .tc) : Vp (U3 m) d b = V4 m d (rf b) := by
  unfold Vp V4
  by_cases h0 : b = main_v51_0
  · subst h0; rw [Function.update_self]; rfl
  rw [dif_neg h0, Function.update_of_ne (StableHlo.devRef_ne_of_ne h0)]
  by_cases h1 : b = main_v51_1
  · subst h1; rw [Function.update_self]; rfl
  rw [dif_neg h1, Function.update_of_ne (StableHlo.devRef_ne_of_ne h1)]
  by_cases h2 : b = main_v51_2
  · subst h2; rw [Function.update_self]; rfl
  rw [dif_neg h2, Function.update_of_ne (StableHlo.devRef_ne_of_ne h2)]
  rfl

/-- Every unscoped buffer after the TensorCore call, as a valuation's. -/
theorem unscoped_Vp (d : Dev nD) :
    (unscopedBufs d (Vp (U3 m) d) : sProp 𝕄) = held (T d : Thread nD τ) (Pipeline.ucRefs τ sig) (V4 m d) := by
  rw [← Pipeline.unscopedBufs_held d (V4 m d)]
  exact congrArg _ (funext fun b => Vp_eq m d b)

/-- What the TensorCore call starts from: the buffers as the middle line leaves them. -/
theorem reg_pre (d : Dev nD) :
    (iprop(held (T d : Thread nD τ) (Pipeline.ucRefs τ sig) (after midOps (V2 m d))
      ∗ ∃ W, ⌜↑W ⊆ lowWaits (F := F) d⌝ ∗ owes (T d : Thread nD τ) (0 : CellTallies nD τ sig (HIx 1)) W) : sProp 𝕄) ⊢ (reg (U3 m)).pre d := by
  rw [show after midOps (V2 m d) = V3 m d from rfl, show (held (T d : Thread nD τ) (Pipeline.ucRefs τ sig) (V3 m d) : sProp 𝕄) = _ from
    (Pipeline.unscopedBufs_held d (V3 m d)).symm]
  exact BIBase.Entails.rfl

/-- What it ends with: its three results in place. -/
theorem reg_post (d : Dev nD) :
    (reg (U3 m)).post d ⊢ (iprop(held (T d : Thread nD τ) (Pipeline.ucRefs τ sig) (V4 m d)
      ∗ ∃ W, ⌜↑W ⊆ lowWaits (F := F) d⌝ ∗ owes (T d : Thread nD τ) (0 : CellTallies nD τ sig (HIx 1)) W) : sProp 𝕄) := by
  rw [← unscoped_Vp]
  exact BIBase.Entails.rfl

/-- The four buffers of the SparseCore call. -/
def scRefs : Finset (DevRef τ sig) := {rf main_v19, rf main_v20, rf main_v37, rf main_v38}

/-- They are unscoped buffers of the TensorCore's. -/
theorem scRefs_sub : scRefs ⊆ Pipeline.ucRefs τ sig := by
  intro b hb
  simp only [scRefs, Finset.mem_insert, Finset.mem_singleton] at hb
  rcases hb with rfl | rfl | rfl | rfl <;>
    exact Finset.mem_filter.mpr ⟨StableHlo.devRef_mem_tcRefs _, by decide⟩

omit [FloatOps F] in
/-- Held at a valuation, they are its contents at the four. -/
theorem held_scRefs (d : Dev nD) (Z : Valuation τ sig (Elt F)) :
    (held (T d : Thread nD τ) scRefs Z : sProp 𝕄)
      = iprop((xLoc d ↦{fullShare} Z (rf main_v19)) ∗ (yLoc d ↦{fullShare} Z (rf main_v20)) ∗ (wLoc d ↦{fullShare} Z (rf main_v37)) ∗ oLoc d ↦{fullShare} Z (rf main_v38)) := by
  unfold held scRefs
  rw [SparseCore.bigSep_insert' (by
      simp only [Finset.mem_insert, Finset.mem_singleton, not_or]
      exact ⟨StableHlo.devRef_ne_of_ne (by decide), StableHlo.devRef_ne_of_ne (by decide), StableHlo.devRef_ne_of_ne (by decide)⟩),
    SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

/-- The SparseCore call's four buffers taken out. -/
theorem held_V1 (d : Dev nD) :
    (held (T d : Thread nD τ) (Pipeline.ucRefs τ sig) (after preOps (V0 m d)) : sProp 𝕄)
      ⊢ iprop(((xLoc d ↦{fullShare} XV m d) ∗ (yLoc d ↦{fullShare} YV m d) ∗ (wLoc d ↦{fullShare} WV m d) ∗ oLoc d ↦{fullShare} V1 m d (rf main_v38))
        ∗ held (T d : Thread nD τ) (Pipeline.ucRefs τ sig \ scRefs) (V1 m d)) := by
  rw [show after preOps (V0 m d) = V1 m d from rfl, StableHlo.held_sub_split (T d) scRefs_sub (V1 m d), held_scRefs d (V1 m d)]
  exact BIBase.Entails.rfl

/-- Putting the SparseCore call's four buffers back, its sums in place. -/
theorem held_V2 (d : Dev nD) :
    (iprop(((xLoc d ↦{fullShare} XV m d) ∗ (yLoc d ↦{fullShare} YV m d) ∗ (wLoc d ↦{fullShare} WV m d) ∗ oLoc d ↦{fullShare} outVal (XV m d) (YV m d) (WV m d))
        ∗ held (T d : Thread nD τ) (Pipeline.ucRefs τ sig \ scRefs) (V1 m d)) : sProp 𝕄)
      = held (T d : Thread nD τ) (Pipeline.ucRefs τ sig) (V2 m d) := by
  rw [StableHlo.held_sub_split (T d) scRefs_sub (V2 m d), held_scRefs d (V2 m d),
    StableHlo.held_congr (c := T d) (S := Pipeline.ucRefs τ sig \ scRefs) (V := V2 m d) (V' := V1 m d) (fun b hb => by
      unfold V2
      refine Function.update_of_ne (fun h => ?_) _ _
      subst h
      exact (Finset.mem_sdiff.mp hb).2 (by simp only [scRefs, Finset.mem_insert, Finset.mem_singleton, or_true]))]
  unfold V2
  rw [Function.update_of_ne (StableHlo.devRef_ne_of_ne (by decide)), Function.update_of_ne (StableHlo.devRef_ne_of_ne (by decide)),
    Function.update_of_ne (StableHlo.devRef_ne_of_ne (by decide)), Function.update_self]
  rfl

/-- After its last call the TensorCore owes nothing, its recorded waits low; the rest of its state stands aside. -/
theorem tcSt_owes (d : Dev nD) :
    ((K (F := F)).tcSt EH d ((0 : Fin 1).val + 1) : sProp 𝕄)
      ⊢ iprop((∃ W, ⌜↑W ⊆ lowWaits (F := F) d⌝ ∗ owes (T d : Thread nD τ) (0 : CellTallies nD τ sig (HIx 1)) W)
        ∗ ((∃ W, ⌜↑W ⊆ lowWaits (F := F) d⌝ ∗ owes (T d : Thread nD τ) (0 : CellTallies nD τ sig (HIx 1)) W) -∗ (K (F := F)).tcSt EH d ((0 : Fin 1).val + 1))) := by
  unfold SparseCore.Cfg.tcSt
  rw [(K (F := F)).Otc_end d (show 1 ≤ (0 : Fin 1).val + 1 from le_refl 1)]
  iintro ⟨⟨%W, %hW, HO⟩, Hst⟩
  isplitl [HO]
  · iexists W
    isplitr; · ipureintro; exact fun p hp => hW p hp
    iexact HO
  iintro ⟨%W', %hW', HO⟩
  isplitl [HO]
  · iexists W'
    isplitr; · ipureintro; exact fun p hp => hW' hp
    iexact HO
  iexact Hst

/-! ## The program's run -/

/-- What a device ends with: every buffer of its own, at its final contents. -/
abbrev FIN (d : Dev nD) : sProp 𝕄 := held (T d : Thread nD τ) (Pipeline.ucRefs τ sig) (V5 m d)

/-- The TensorCore call, among the SparseCore calls' labels, runs as the call among its own. -/
theorem call_lift (d : Dev nD) (Φ : PUnit → sProp 𝕄) :
    wp frame (wpE (D (F := F)) 𝒱 (T d : Thread nD τ) none) Set.univ (tcCall (F := F)) Φ
      ⊢ wp frame (wpE ((K (F := F)).defs (D (F := F))) 𝒱 (T d : Thread nD τ) none) Set.univ (SparseCore.liftProg (tcCall (F := F))) Φ :=
  (K (F := F)).wp_liftProg (D (F := F)) 𝒱 (T d) Set.univ none (tcCall (F := F)) Φ

variable (ρ : Dev nD → PrngReg)

/-- The program on device `d`'s TensorCore, from the launch memory to its final contents. -/
theorem hmain [∀ e, Nonempty (Elt F e)] (κ : GSem nD τ sig → ℕ) (d : Dev nD) :
    iprop((K (F := F)).ctx EH (P (XV m) (YV m) (WV m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((T d : Thread nD τ).loc b)) : sProp 𝕄) = held (T d : Thread nD τ) (Pipeline.ucRefs τ sig) (V0 m d) from
    Pipeline.unscopedBufs_held d (V0 m d)]
  iintro ⟨#Hctx, Hst, ⟨Hb, Hbufs, Hts, -⟩, HG⟩
  iapply (StableHlo.wp_seq 𝒱 none Set.univ d (Pipeline.ucRefs τ sig) _ preOps preOps_bufs preOps_fresh (V0 m d)) $$ [Hb Hbufs]
  · isplitl [Hb] <;> iassumption
  iintro ⟨Hb, Hbufs⟩
  ihave Hbufs := (held_V1 m d) $$ Hbufs
  icases Hbufs with ⟨Hsc, Hrest⟩
  iapply (Entails.of_eq (wp_bind _ _ _ _ _ _).symm)
  iapply ((K (F := F)).wp_run (D (F := F)) 𝒱 (EH := EH) (P := P (XV m) (YV m) (WV m)) κ d 0) $$ [Hst Hsc Hrest Hb Hts HG]
  isplitr; · iexact Hctx
  isplitl [Hst]; · iexact Hst
  isplitl [Hsc]; · iapply (st_of (XV m) (YV m) (WV m) d (V1 m d (rf main_v38))); iexact Hsc
  iintro ⟨Hst, Hdn⟩
  ihave Hsc := (of_dn (XV m) (YV m) (WV m) d) $$ Hdn
  ihave Hbufs := (Entails.of_eq (held_V2 m d)) $$ [Hsc Hrest]
  · isplitl [Hsc] <;> iassumption
  iapply (StableHlo.wp_seq 𝒱 none Set.univ d (Pipeline.ucRefs τ sig) _ midOps midOps_bufs midOps_fresh (V2 m d)) $$ [Hb Hbufs]
  · isplitl [Hb] <;> iassumption
  iintro ⟨Hb, Hbufs⟩
  iapply (Entails.of_eq (wp_bind _ _ _ _ _ _).symm)
  ihave Hst := (tcSt_owes d) $$ Hst
  icases Hst with ⟨HO, Hst⟩
  ihave Hlev := (SparseCore.Cfg.ctx_levAts κ) $$ Hctx
  iapply (call_lift d _)
  iapply (Pipeline.RegionSeg.wp pcfgs adm (pdats (U3 m)) none cellOf_inj EP defs₀ 𝒱₀ (K (F := F)).L (K (F := F)).lev (reg (U3 m)) d none (fun _ h => nomatch h) _ _)
  isplitr [HG Hlev HO Hb Hbufs]
  rotate_left
  · isplitl [Hb]; · iexact Hb
    isplitl [HO Hbufs]
    · iapply (reg_pre m d); isplitl [Hbufs] <;> iassumption
    isplitl [Hlev]; · iexact Hlev
    iexact HG
  iintro ⟨Hb, Hpost⟩
  ihave Hpost := (reg_post m d) $$ Hpost
  icases Hpost with ⟨Hbufs, HO⟩
  ihave Hst := Hst $$ HO
  iapply (Entails.of_eq (wp_ret _ _ _ _ _).symm)
  imodintro
  iapply (StableHlo.wp_seq 𝒱 none Set.univ d (Pipeline.ucRefs τ sig) _ tailOps tailOps_bufs tailOps_fresh (V4 m d)) $$ [Hb Hbufs]
  · isplitl [Hb] <;> iassumption
  iintro ⟨Hb, Hbufs⟩
  iapply (Entails.of_eq (wp_ret _ _ _ _ _).symm)
  imodintro
  isplitl [Hst]; · iexact Hst
  isplitl [Hbufs]; · iexact Hbufs
  isplitl [Hb] <;> iassumption

/-- Every buffer of the TensorCore's own holds its final contents. -/
def fq (d : Dev nD) (s' : Phys nD τ sig (Elt F)) : Prop := ∀ b ∈ Pipeline.ucRefs τ sig, s'.mem.mem (d, b) = V5 m d b

set_option maxRecDepth 16384 in
/-- What the TensorCore ends with says what the memory holds. -/
theorem hfin (d : Dev nD) (s' : Phys nD τ sig (Elt F)) : iprop(FIN m d ∗ SI s') ⊢ (⌜fq m d s'⌝ : sProp 𝕄) := by
  refine BIBase.Entails.trans ?_ (Laws.pure_forall.2)
  refine Laws.forall_intro fun b => ?_
  refine BIBase.Entails.trans ?_ (Laws.pure_forall.2)
  refine Laws.forall_intro fun hb => ?_
  rw [show FIN m d = _ from StableHlo.held_sub_split (T d) (Finset.singleton_subset_iff.mpr hb) (V5 m d)]
  unfold held
  rw [bigSep_singleton]
  iintro ⟨⟨Hb, -⟩, HSI⟩
  ihave H := (SI_pointsTo_agree (st := s') (ℓ := (d, b)) (I := Finset.univ) (q := fullShare) (f := V5 m d b)) $$ [HSI Hb]
  · isplitl [HSI] <;> iassumption
  icases H with %h2
  ipureintro; exact funext fun i => h2 i (Finset.mem_univ i)

/-- What the run ends in: every device's own buffers at their final contents, every semaphore at zero. -/
def QC : PUnit × MemSt nD τ sig (Elt F) → Prop := fun r =>
  (∀ (c : Dev nD), ∀ b ∈ Pipeline.ucRefs τ sig, r.2.mem (c, b) = V5 m c b) ∧ r.2.sem = fun _ => 0

/-- The program runs, ends quiescent, and leaves every buffer at its final contents. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XV m) (YV m) (WV m)) (A := ∅) facts v₀
    (fun q hq => match q with | 0 => nomatch hq)
    (fun q _ => match q with | 0 => tileObl (XV m) (YV m) (WV m) facts)
    (fun q _ => match q with | 0 => SparseCore.Cfg.VecSplit.of_plain (vecSplit (XV m) (YV m) (WV m)))
    m ρ main (fun d => G d) (FIN m) (u₀ (F := F)) (sep_elim_left.trans (hu₀ (XV m) (YV m) (WV m))) (hmain m ρ) (fq m) (hfin m) (QC m) (fun _ h hz => ⟨h, hz⟩)

/-- The references of the operands are unscoped. -/
theorem mem_uc (b : Ref sig .tc) (h : b.isScoped = false) : rf b ∈ Pipeline.ucRefs τ sig :=
  Finset.mem_filter.mpr ⟨StableHlo.devRef_mem_tcRefs _, fun h' => Bool.false_ne_true (h.symm.trans h')⟩

/-- What the program writes: a reference outside keeps its contents from the launch. -/
theorem V5_kept (d : Dev nD) (b : Ref sig .tc) (hpre : b ∉ preW) (hmid : b ∉ midW) (htail : b ∉ tailW)
    (h38 : b ≠ main_v38) (h0 : b ≠ main_v51_0) (h1 : b ≠ main_v51_1) (h2 : b ≠ main_v51_2) : V5 m d (rf b) = m (d, rf b) := by
  unfold V5
  rw [StableHlo.after_of_writes_sub tailOps _ tailOps_writes htail]
  unfold V4
  rw [Function.update_of_ne (StableHlo.devRef_ne_of_ne h0), Function.update_of_ne (StableHlo.devRef_ne_of_ne h1),
    Function.update_of_ne (StableHlo.devRef_ne_of_ne h2)]
  unfold V3
  rw [StableHlo.after_of_writes_sub midOps _ midOps_writes hmid]
  unfold V2
  rw [Function.update_of_ne (StableHlo.devRef_ne_of_ne h38)]
  unfold V1
  rw [StableHlo.after_of_writes_sub preOps _ preOps_writes hpre]
  rfl

/-- The program's operands end as they began. -/
theorem V5_args (d : Dev nD) :
    V5 m d (rf main_arg0) = m (d, rf main_arg0) ∧ V5 m d (rf main_arg1) = m (d, rf main_arg1) ∧ V5 m d (rf main_arg2) = m (d, rf main_arg2)
      ∧ V5 m d (rf main_arg3) = m (d, rf main_arg3) ∧ V5 m d (rf main_arg4) = m (d, rf main_arg4) := by
  refine ⟨?_, ?_, ?_, ?_, ?_⟩ <;>
    exact V5_kept m d _ (by decide) (by decide) (by decide) (by decide) (by decide) (by decide) (by decide)

end Values

end Cert.Proof.PI

end
-- ==== Proof.R.Kept.lean ====
/-
  The reference's run keeps its operands: no stretch of it, in its loop or outside, writes one.
-/
module

public import proofs.«01_k».proof.Defs
public import proofs.«01_k».proof.Proof.Gen.ReferenceIdeal.Run
public import Idealize.ShloMosaic.Lib.Quiescent

@[expose] public section

noncomputable section

namespace Cert.Proof.R

open Cert.ReferenceIdeal Cert.ReferenceIdeal.Gen Cert.ReferenceIdeal.Value
open Idealize.ShloMosaic Idealize.ShloMosaic.StableHlo Idealize.SL.Sem

variable {F : FTy → Type} [FloatOps F] (m : (ℓ : Loc nD τ sig) → Buf (Elt F) ℓ)

/-- What the reference writes outside its loop, after it. -/
abbrev postW : List (Ref sig .tc) :=
  [main_cst_4, main_v15, main_v16, main_v17, main_v18, main_cst_5, main_v19, main_v20, main_v21, main_v22, main_v23, main_v24, main_v25, main_cst_6, main_v26,
    main_call2_call0_cst, main_call2_call0_v0, main_v27,
    main_v28, main_v29, main_v30, main_v31, main_c_7, main_v32, main_v33, main_c_8, main_c_9,
    main_call3_v0, main_call3_v1, main_call3_v2, main_call3_v3, main_call3_v4, main_v34,
    main_c_10, main_v35, main_v36, main_c_11, main_v37, main_v38, main_v39, main_v40, main_v41, main_cst_12, main_v42, main_cst_13, main_v43, main_cst_14, main_v44, main_v45, main_v46]

/-- The stretches after the loop, as one line. -/
abbrev postOps : List (HloOp τ sig (Elt F)) := hostOps0_1 ++ (hostOps0_2 ++ (hostOps0_3 ++ (hostOps0_4 ++ hostOps0_5)))
/-- The operations after the loop write nothing else. -/
theorem postOps_writes : (postOps (F := F)).Forall fun op => op.writes ⊆ (postW.map (Proc.devRef (τ := τ) .tc)).toFinset :=
  StableHlo.forall_writes_sub_of_map rfl
/-- The stretches after the loop leave what the one line does. -/
theorem after_postI (V : Valuation τ sig (Elt F)) : afterL postI V = after postOps V := rfl

/-- A reference the loop does not write holds, before every trip, what it held at the loop's entry. -/
theorem atK_kept (c : Dev nD) (b : Ref sig .tc) (hc : b ∉ condOps_W) (h0 : b ∉ while0Ops0_W) (h1 : b ∉ while0Ops0_1_W) (h2 : b ∉ while0Ops0_2_W)
    (h3 : b ∉ while0Ops0_3_W) : ∀ k, atK m k c (Proc.devRef .tc b) = entryContents preI m c (Proc.devRef .tc b)
  | 0 => rfl
  | k + 1 => by
    rw [show atK m (k + 1) c = after while0Ops0_3 (after while0Ops0_2 (after while0Ops0_1 (after while0Ops0 (after condOps (atK m k c))))) from rfl]
    rw [after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, atK_kept c b hc h0 h1 h2 h3 k]

/-- What every buffer holds when the loop is left. -/
def atExit (c : Dev nD) : Valuation τ sig (Elt F) := after condOps (atK m 512 c)

/-- The run ends with what the operations after the loop leave. -/
theorem final_eq (c : Dev nD) : finalContents condOps preI bodyI postI 512 m c = after postOps (atExit m c) := after_postI _

/-- A reference nothing writes. -/
theorem exit_kept (c : Dev nD) (b : Ref sig .tc) (hc : b ∉ condOps_W) (h0 : b ∉ while0Ops0_W) (h1 : b ∉ while0Ops0_1_W) (h2 : b ∉ while0Ops0_2_W)
    (h3 : b ∉ while0Ops0_3_W) : atExit m c (Proc.devRef .tc b) = entryContents preI m c (Proc.devRef .tc b) := by
  unfold atExit
  rw [after_of_writes_sub condOps _ condOps_writes hc, atK_kept m c b hc h0 h1 h2 h3]

/-- A reference that nothing writes ends as it began. -/
theorem final_kept (c : Dev nD) (b : Ref sig .tc) (hp : b ∉ hostOps0_W) (hc : b ∉ condOps_W) (h0 : b ∉ while0Ops0_W) (h1 : b ∉ while0Ops0_1_W)
    (h2 : b ∉ while0Ops0_2_W) (h3 : b ∉ while0Ops0_3_W) (hq : b ∉ postW) :
    finalContents condOps preI bodyI postI 512 m c (Proc.devRef .tc b) = m (c, Proc.devRef .tc b) := by
  rw [final_eq, after_of_writes_sub postOps _ postOps_writes hq, exit_kept m c b hc h0 h1 h2 h3]
  exact after_of_writes_sub hostOps0 _ hostOps0_writes hp

/-- The reference's operands end as they began. -/
theorem final_args (c : Dev nD) :
    finalContents condOps preI bodyI postI 512 m c (Proc.devRef .tc main_arg0) = m (c, Proc.devRef .tc main_arg0)
      ∧ finalContents condOps preI bodyI postI 512 m c (Proc.devRef .tc main_arg1) = m (c, Proc.devRef .tc main_arg1)
      ∧ finalContents condOps preI bodyI postI 512 m c (Proc.devRef .tc main_arg2) = m (c, Proc.devRef .tc main_arg2)
      ∧ finalContents condOps preI bodyI postI 512 m c (Proc.devRef .tc main_arg3) = m (c, Proc.devRef .tc main_arg3)
      ∧ finalContents condOps preI bodyI postI 512 m c (Proc.devRef .tc main_arg4) = m (c, Proc.devRef .tc main_arg4) := by
  refine ⟨?_, ?_, ?_, ?_, ?_⟩ <;>
    exact final_kept m c _ (by decide) (by decide) (by decide) (by decide) (by decide) (by decide) (by decide)

end Cert.Proof.R

end
-- ==== Proof.Frames.lean ====
/-
  The three programs run, end quiescent, and leave their operands as they were: the kernel's at the machine's floats, the
  kernel's and the reference's at the ideal ones.
-/
module

public import proofs.«01_k».proof.Proof.P.Main
public import proofs.«01_k».proof.Proof.PI.Main
public import proofs.«01_k».proof.Proof.R.Kept

@[expose] public section

noncomputable section

namespace Cert.Proof

open Idealize.ShloMosaic Idealize.SL.Sem

/-- The shape facts the precondition's function takes. -/
instance preFacts : Cert.Pre_inputs_tame.Facts where
  bcast_S_S512x64 := by decide
  slices_S32768x3_S32768x1_0_0 := by decide
  shapeCasts_S32768x1_S32768 := by decide
  shapeCasts_S32768_S512x64 := by decide
  shapeCasts_S1_S_ := by decide

/-- The kernel at the machine's floats. -/
theorem frame_kernel : Cert.quiescent_Kernel := fun m ρ _ =>
  (θ_run Cert.Kernel.defs _ _).mono (fun _ h => ⟨fun c =>
    ⟨(h.1 c _ (P.mem_uc Cert.Kernel.main_arg0 rfl)).trans (P.V5_args m c).1,
      (h.1 c _ (P.mem_uc Cert.Kernel.main_arg1 rfl)).trans (P.V5_args m c).2.1,
      (h.1 c _ (P.mem_uc Cert.Kernel.main_arg2 rfl)).trans (P.V5_args m c).2.2.1,
      (h.1 c _ (P.mem_uc Cert.Kernel.main_arg3 rfl)).trans (P.V5_args m c).2.2.2.1,
      (h.1 c _ (P.mem_uc Cert.Kernel.main_arg4 rfl)).trans (P.V5_args m c).2.2.2.2⟩, h.2⟩) (P.run_main (F := Bits) m ρ)

/-- The kernel at the ideal floats. -/
theorem frame_kernelIdeal : Cert.quiescent_KernelIdeal := fun m ρ _ =>
  (θ_run Cert.KernelIdeal.defs _ _).mono (fun _ h => ⟨fun c =>
    ⟨(h.1 c _ (PI.mem_uc Cert.KernelIdeal.main_arg0 rfl)).trans (PI.V5_args m c).1,
      (h.1 c _ (PI.mem_uc Cert.KernelIdeal.main_arg1 rfl)).trans (PI.V5_args m c).2.1,
      (h.1 c _ (PI.mem_uc Cert.KernelIdeal.main_arg2 rfl)).trans (PI.V5_args m c).2.2.1,
      (h.1 c _ (PI.mem_uc Cert.KernelIdeal.main_arg3 rfl)).trans (PI.V5_args m c).2.2.2.1,
      (h.1 c _ (PI.mem_uc Cert.KernelIdeal.main_arg4 rfl)).trans (PI.V5_args m c).2.2.2.2⟩, h.2⟩) (PI.run_main (F := Ideal) m ρ)

/-- The reference at the ideal floats, from any memory. -/
theorem frame_referenceIdeal : Cert.quiescent_ReferenceIdeal := fun m ρ _ =>
  (θ_run Cert.ReferenceIdeal.defs _ _).mono (fun r h => ⟨fun c =>
    ⟨(h c Cert.ReferenceIdeal.main_arg0 rfl).trans (R.final_args m c).1,
      (h c Cert.ReferenceIdeal.main_arg1 rfl).trans (R.final_args m c).2.1,
      (h c Cert.ReferenceIdeal.main_arg2 rfl).trans (R.final_args m c).2.2.1,
      (h c Cert.ReferenceIdeal.main_arg3 rfl).trans (R.final_args m c).2.2.2.1,
      (h c Cert.ReferenceIdeal.main_arg4 rfl).trans (R.final_args m c).2.2.2.2⟩, sem_eq_zero_of_no_sems (by decide) r.2⟩)
    (Cert.ReferenceIdeal.Value.run_fold (F := Ideal) m ρ)

/-- The reference at the ideal floats, from a memory of the precondition's. -/
theorem frame_referenceIdeal_pre : Cert.quiescent_ReferenceIdeal_pre_inputs_tame := fun m ρ _ => frame_referenceIdeal m ρ trivial

end Cert.Proof

end
-- ==== Proof.Reals.lean ====
/-
  The extended-real mathematics by which the kernel and the reference agree: the scaled distance, the weight's norm moved
  across the product, the sum of a geometric series in closed form, a weight of zero.
-/
module

public import Idealize.ShloMosaic.PureOps.Ideal.Laws
public import Idealize.ShloMosaic.Lib.IdealHost

@[expose] public section

noncomputable section

namespace Cert.Proof.E

open Idealize.ShloMosaic

/-! ## The constants -/

/-- The pattern of two. -/
theorem bits_two : Ideal.ofBits .f32 0x40000000#32 = ((2 : ℝ) : EReal) := by
  simp [Ideal.ofBits, Ideal.ieee, -EReal.coe_mul]; norm_num
/-- The pattern of five hundred and twelve. -/
theorem bits_512 : Ideal.ofBits .f32 0x44000000#32 = ((512 : ℝ) : EReal) := by
  simp [Ideal.ofBits, Ideal.ieee, -EReal.coe_mul]; norm_num
/-- The pattern of thirty-two. -/
theorem bits_32 : Ideal.ofBits .f32 0x42000000#32 = ((32 : ℝ) : EReal) := by
  simp [Ideal.ofBits, Ideal.ieee, -EReal.coe_mul]; norm_num
/-- The pattern of minus infinity. -/
theorem bits_bot : Ideal.ofBits .f32 0xFF800000#32 = ⊥ := by
  simp [Ideal.ofBits, Ideal.ieee]
/-- The pattern of twice the circle's constant is a positive real. -/
theorem bits_pi2 : ∃ p : ℝ, 0 < p ∧ Ideal.ofBits .f32 0x40C90FDB#32 = (p : EReal) := by
  refine ⟨_, ?_, by simp [Ideal.ofBits, Ideal.ieee, -EReal.coe_mul]; rfl⟩
  positivity

/-- Twice the circle's constant, as the programs write it. -/
abbrev pi2 : EReal := Ideal.ofBits .f32 0x40C90FDB#32

/-! ## The scaled distance -/

/-- A difference of two values scaled alike, squared, is the square of the difference scaled by the square: for infinite
    values too, a difference of two infinities alike being minus infinity. -/
theorem sq_scaled (x x' : EReal) {s : ℝ} (hs : s ≠ 0) :
    (x * (s : EReal) - x' * (s : EReal)) * (x * (s : EReal) - x' * (s : EReal)) = (x - x') * (x - x') * ((s * s : ℝ) : EReal) := by
  have hss : 0 < s * s := mul_self_pos.2 hs
  rcases lt_or_gt_of_ne hs with h | h
  · induction x <;> induction x' <;>
      simp only [EReal.bot_mul_coe_of_neg h, EReal.top_mul_coe_of_neg h, EReal.top_sub_bot, EReal.bot_sub, EReal.top_sub_coe, EReal.coe_sub_bot, EReal.bot_mul_bot, EReal.top_mul_top, EReal.sub_top, EReal.top_mul_coe_of_pos hss, ← EReal.coe_mul, ← EReal.coe_sub] <;> try rfl
    · congr 1; ring
  · induction x <;> induction x' <;>
      simp only [EReal.bot_mul_coe_of_pos h, EReal.top_mul_coe_of_pos h, EReal.top_sub_bot, EReal.bot_sub, EReal.top_sub_coe, EReal.coe_sub_bot, EReal.bot_mul_bot, EReal.top_mul_top, EReal.sub_top, EReal.top_mul_coe_of_pos hss, ← EReal.coe_mul, ← EReal.coe_sub] <;> try rfl
    · congr 1; ring

/-- A square is not negative. -/
theorem sq_nonneg' (x : EReal) : 0 ≤ x * x := by
  rcases le_total 0 x with h | h
  · exact EReal.mul_nonneg h h
  · exact EReal.mul_nonneg_iff.2 (.inr ⟨h, h⟩)

/-- What the kernel scales a coordinate by. -/
def scale (σ : EReal) : EReal := Ideal.div (Ideal.ofBits .f32 0x3F800000#32) (Ideal.sqrt (Ideal.ofBits .f32 0x40000000#32) * σ)
/-- What the kernel scales a weight by. -/
def norm (σ : EReal) : EReal := Ideal.div (Ideal.ofBits .f32 0x3F800000#32) (pi2 * σ * σ)

/-- The reference's divisor is not zero where the width is not. -/
theorem pi2_sq_ne (σ : EReal) (h0 : σ ≠ 0) : pi2 * σ * σ ≠ 0 := by
  obtain ⟨p, hp, e⟩ := bits_pi2
  have hp' : (pi2 : EReal) ≠ 0 := by rw [pi2, e]; exact_mod_cast hp.ne'
  exact mul_ne_zero (mul_ne_zero hp' h0) h0

/-- The norm of an infinite width is zero. -/
theorem inv_pi2_inf (σ : EReal) (h : σ = ⊤ ∨ σ = ⊥) : (pi2 * σ * σ)⁻¹ = 0 := by
  obtain ⟨p, hp, e⟩ := bits_pi2
  rcases h with h | h <;> subst h <;> rw [pi2, e]
  · rw [EReal.coe_mul_top_of_pos hp, EReal.top_mul_top, EReal.inv_top]
  · rw [EReal.coe_mul_bot_of_pos hp, EReal.bot_mul_bot, EReal.inv_top]

/-- The kernel's exponent and the reference's, at a real width. -/
theorem exponent (x y x' y' : EReal) {σ : ℝ} (hσ : σ ≠ 0) :
    Ideal.ofBits .f32 0x00000000#32
        - ((x * scale σ - x' * scale σ) * (x * scale σ - x' * scale σ) + (y * scale σ - y' * scale σ) * (y * scale σ - y' * scale σ))
      = Ideal.div (-((x - x') * (x - x') + (y - y') * (y - y'))) (Ideal.ofBits .f32 0x40000000#32 * σ * σ) := by
  have h2 : (0 : ℝ) < 2 := by norm_num
  have hr : Real.sqrt 2 * σ ≠ 0 := mul_ne_zero (Real.sqrt_pos.2 h2).ne' hσ
  have hs : scale σ = ((1 / (Real.sqrt 2 * σ) : ℝ) : EReal) := by
    unfold scale
    rw [bits_two, Ideal.sqrt_coe, if_neg (by norm_num), ← EReal.coe_mul, Ideal.div_coe hr, Ideal.ofBits_one_f32, one_mul]
  have hs0 : (1 / (Real.sqrt 2 * σ) : ℝ) ≠ 0 := one_div_ne_zero hr
  have hd : (2 * σ * σ : ℝ) ≠ 0 := mul_ne_zero (mul_ne_zero h2.ne' hσ) hσ
  rw [hs, sq_scaled _ _ hs0, sq_scaled _ _ hs0, bits_two, ← EReal.coe_mul, ← EReal.coe_mul, Ideal.div_coe hd, Ideal.ofBits_zero_f32, zero_sub,
    ← EReal.right_distrib_of_nonneg (sq_nonneg' _) (sq_nonneg' _), EReal.neg_mul]
  congr 3
  have := Real.mul_self_sqrt h2.le
  field_simp
  nlinarith

/-- One summand: the kernel's, with the norm in the weight and the scale in the coordinates, is the reference's, with both
    in the kernel of the distance. -/
theorem summand (A x y x' y' σ : EReal) (h0 : σ ≠ 0) :
    A * norm σ * Ideal.exp (Ideal.ofBits .f32 0x00000000#32
        - ((x * scale σ - x' * scale σ) * (x * scale σ - x' * scale σ) + (y * scale σ - y' * scale σ) * (y * scale σ - y' * scale σ)))
      = Ideal.div (Ideal.exp (Ideal.div (-((x - x') * (x - x') + (y - y') * (y - y'))) (Ideal.ofBits .f32 0x40000000#32 * σ * σ))) (pi2 * σ * σ) * A := by
  have hn : norm σ = (pi2 * σ * σ)⁻¹ := by
    unfold norm Ideal.div; rw [if_neg (pi2_sq_ne σ h0), Ideal.ofBits_one_f32, one_mul]
  have hdv : ∀ z, Ideal.div z (pi2 * σ * σ) = z * (pi2 * σ * σ)⁻¹ := fun z => by unfold Ideal.div; rw [if_neg (pi2_sq_ne σ h0)]
  rw [hn, hdv]
  rcases eq_or_ne σ ⊤ with ht | ht
  · rw [inv_pi2_inf σ (.inl ht), mul_zero, mul_zero, zero_mul, zero_mul]
  rcases eq_or_ne σ ⊥ with hb | hb
  · rw [inv_pi2_inf σ (.inr hb), mul_zero, mul_zero, zero_mul, zero_mul]
  lift σ to ℝ using ⟨ht, hb⟩
  rw [exponent x y x' y' (by exact_mod_cast h0)]
  rw [mul_comm (_ * _) A, mul_comm (Ideal.exp _) (pi2 * _ * _)⁻¹, mul_assoc]

/-! ## The closed form of the decay's sum -/

/-- One day's decay: at `i + 1` days. -/
def decay (c b : EReal) (i : ℕ) : EReal := c * b * Ideal.exp (-b * ((1 + i : ℝ) : EReal))

/-- The decay's sum over the first `n` days in closed form. -/
theorem decay_sum (c b : EReal) (hb : b ≠ ⊥) (n : ℕ) :
    Ideal.div (c * b * Ideal.exp (-b)) (Ideal.ofBits .f32 0x3F800000#32 - Ideal.exp (-b))
        * (Ideal.ofBits .f32 0x3F800000#32 - Ideal.exp ((Ideal.ofBits .f32 0x00000000#32 - b) * ((n : ℝ) : EReal)))
      = ∑ i ∈ Finset.range n, decay c b i := by
  rw [Ideal.ofBits_one_f32, Ideal.ofBits_zero_f32, zero_sub]
  unfold decay
  rcases eq_or_ne b ⊤ with ht | ht
  · subst ht
    have hz : ∀ i : ℕ, c * ⊤ * Ideal.exp (-⊤ * ((1 + i : ℝ) : EReal)) = 0 := fun i => by
      rw [EReal.neg_top, EReal.bot_mul_coe_of_pos (by positivity), Ideal.exp_bot, mul_zero]
    rw [Finset.sum_eq_zero fun i _ => hz i, EReal.neg_top, Ideal.exp_bot, mul_zero, sub_zero, Ideal.zero_div one_ne_zero, zero_mul]
  lift b to ℝ using ⟨ht, hb⟩
  rcases eq_or_ne b 0 with h0 | h0
  · subst h0
    have he : (1 : EReal) - Ideal.exp (-((0 : ℝ) : EReal) * ((n : ℝ) : EReal)) = 0 := by
      rw [← EReal.coe_neg, ← EReal.coe_mul, Ideal.exp_coe, neg_zero, zero_mul, Real.exp_zero, EReal.coe_one, EReal.sub_self (by decide) (by decide)]
    rw [he, mul_zero, EReal.coe_zero, mul_zero]
    simp only [zero_mul, Finset.sum_const_zero]
  have hq : (1 - Real.exp (-b)) ≠ 0 := by
    intro h
    have : Real.exp (-b) = 1 := by linarith
    exact h0 (by simpa using this)
  have h1 : ∀ r : ℝ, ((1 : EReal) - (r : EReal)) = ((1 - r : ℝ) : EReal) := fun r => by norm_cast
  rw [← EReal.coe_neg, Ideal.exp_coe, h1, ← EReal.coe_mul, Ideal.exp_coe, h1, Ideal.div_coe hq, mul_assoc, mul_assoc, ← EReal.coe_mul, ← EReal.coe_mul]
  have hsum : ∀ (K : EReal) (f : ℕ → ℝ) (_ : ∀ i, 0 ≤ f i) (n : ℕ), ∑ i ∈ Finset.range n, K * (f i : EReal) = K * ((∑ i ∈ Finset.range n, f i : ℝ) : EReal) := by
    intro K f hf n
    induction n with
    | zero => simp
    | succ n ih =>
      rw [Finset.sum_range_succ, ih, Finset.sum_range_succ, EReal.coe_add, EReal.left_distrib_of_nonneg]
      · exact_mod_cast Finset.sum_nonneg fun i _ => hf i
      · exact_mod_cast hf n
  have hr : ∀ i ∈ Finset.range n, c * (b : EReal) * Ideal.exp ((((-b : ℝ)) : EReal) * ((1 + i : ℝ) : EReal)) = c * (b : EReal) * ((Real.exp (-b) * Real.exp (-b) ^ i : ℝ) : EReal) := by
    intro i _
    rw [← EReal.coe_mul, Ideal.exp_coe, mul_add, mul_one, Real.exp_add, mul_comm (-b) (i : ℝ), Real.exp_nat_mul]
  rw [Finset.sum_congr rfl hr, hsum _ _ (fun i => by positivity)]
  congr 2
  rw [← Finset.mul_sum, geom_sum_eq (by intro h; exact hq (by rw [h]; ring)), mul_comm (-b) (n : ℝ), Real.exp_nat_mul]
  have : Real.exp (-b) - 1 ≠ 0 := fun h => hq (by linarith)
  field_simp
  ring

/-- A sum over `n` blocks of `m`, block by block. -/
theorem sum_blocks (n m : ℕ) (f : ℕ → EReal) : ∑ j ∈ Finset.range n, ∑ l ∈ Finset.range m, f (m * j + l) = ∑ e ∈ Finset.range (n * m), f e := by
  induction n with
  | zero => simp
  | succ n ih =>
    rw [Finset.sum_range_succ, ih, Nat.succ_mul, Finset.sum_range_add]
    refine congrArg _ (Finset.sum_congr rfl fun l _ => by rw [Nat.mul_comm])

end Cert.Proof.E

end
-- ==== Proof.Cols.lean ====
/-
  An event's columns, and the layout operations that both programs read them through.
-/
module

public import proofs.«01_k».proof.Proof.PI.Common
public import proofs.«01_k».proof.Proof.PI.Trip
public import Idealize.ShloMosaic.Lib.Pipeline.Value
public import Idealize.ShloMosaic.Lib.ValueIdx

@[expose] public section

noncomputable section

namespace Cert.Proof.E

open Cert.Proof.PI
open Idealize.ShloMosaic

variable {α : Type}

/-- Column `k` of event `n`. -/
def ob (x : (⟨2, ![32768, 3]⟩ : Shape).Idx → α) (n : ℕ) (k : Fin 3) : α := x (ValueIdx.ix2 ⟨n % 32768, Nat.mod_lt _ (by decide)⟩ k)

/-- The scalar of an operand of one element. -/
def sc (x : (⟨1, ![1]⟩ : Shape).Idx → α) : α := x (ix 1 0)

/-- A column sliced off and flattened, at an event. -/
theorem col_eq (x : (⟨2, ![32768, 3]⟩ : Shape).Idx → α) (k : Fin 3) (h : (⟨2, ![32768, 3]⟩ : Shape).Slices ![0, k.val] ⟨2, ![32768, 1]⟩)
    (h' : (⟨2, ![32768, 1]⟩ : Shape).ShapeCasts ⟨1, ![32768]⟩) (j : (⟨1, ![32768]⟩ : Shape).Idx) :
    shapeCast ⟨1, ![32768]⟩ (extractStridedSlice ⟨2, ![32768, 1]⟩ ![0, k.val] x h) h' j = ob x (j 0).val k := by
  have hj : (j 0).val < 32768 := (j 0).isLt
  rw [shapeCast_apply _ h' j (ValueIdx.ix2 ⟨(j 0).val, hj⟩ 0) (by
    rw [Shape.rowMajor_val_two, Shape.rowMajor_val_one]
    show (j 0).val * 1 + 0 = (j 0).val
    omega)]
  unfold ob extractStridedSlice
  refine congrArg x (funext fun a => Fin.ext ?_)
  match a with
  | 0 =>
    show 0 + (j 0).val = (j 0).val % 32768
    rw [Nat.mod_eq_of_lt hj, Nat.zero_add]
  | 1 => exact Nat.add_zero _

/-- An operand of one element as a scalar. -/
theorem sc_eq (x : (⟨1, ![1]⟩ : Shape).Idx → α) (h : (⟨1, ![1]⟩ : Shape).ShapeCasts ⟨0, ![]⟩) (j : (⟨0, ![]⟩ : Shape).Idx) :
    shapeCast ⟨0, ![]⟩ x h j = sc x := by
  unfold shapeCast sc
  refine congrArg x (funext fun a => Fin.ext ?_)
  match a with
  | 0 =>
    have h1 : ((Shape.reshapeEquiv h j) 0).val < 1 := ((Shape.reshapeEquiv h j) 0).isLt
    have h2 : ((ix 1 0) 0).val < 1 := ((ix 1 0) 0).isLt
    omega

end Cert.Proof.E

end
-- ==== Proof.KerReads.lean ====
/-
  What the operations before the SparseCore's call leave in its operands, at the ideal floats.
-/
module

public import proofs.«01_k».proof.Proof.PI.Main
public import proofs.«01_k».proof.Proof.Reals
public import proofs.«01_k».proof.Proof.Cols
public import Idealize.ShloMosaic.Lib.StableHlo.RunRead
public import Idealize.ShloMosaic.Lib.DynamicIndex

@[expose] public section

noncomputable section

namespace Cert.Proof.E

open Cert.KernelIdeal Cert.KernelIdeal.Gen Cert.Proof.PI
open Idealize.ShloMosaic Idealize.ShloMosaic.StableHlo

variable (V : Valuation τ sig (Elt Ideal))

/-- The events. -/
abbrev kObs : (⟨2, ![32768, 3]⟩ : Shape).Idx → EReal := V (rf main_arg0)
/-- The background rate. -/
abbrev kLam : EReal := sc (α := EReal) (V (rf main_arg1))
/-- The excitation's weight. -/
abbrev kC : EReal := sc (α := EReal) (V (rf main_arg2))
/-- The excitation's rate of decay. -/
abbrev kB : EReal := sc (α := EReal) (V (rf main_arg3))
/-- The excitation's width. -/
abbrev kS : EReal := sc (α := EReal) (V (rf main_arg4))

/-- The first coordinates, scaled and padded: event `n` sits 2048 on. -/
theorem pre_x (n : ℕ) (hn : n < 32768) :
    (after preOps V (rf main_v19) : S34816.Idx → EReal) (ix 34816 (2048 + n)) = ob (kObs V) n 1 * scale (kS V) := by
  unfold preOps rf
  after_reads_simp
  have h0 : ((ix 32768 n) 0).val = n := Nat.mod_eq_of_lt hn
  refine (concatenate_pair_apply_right (t := S34816) (s₁ := S2048) (s₂ := S32768) 0 _ _ _ _ rfl rfl (ix 32768 n) (fun b hb => absurd (Subsingleton.elim _ _) hb) ?_).trans ?_
  · show ((ix 32768 n) 0).val + 2048 = (2048 + n) % 34816
    omega
  · refine congrArg₂ (fun a b : EReal => a * b) ((col_eq (kObs V) 1 _ _ (ix 32768 n)).trans (by rw [h0])) ?_
    exact congrArg (fun s : EReal => Ideal.div (Ideal.ofBits .f32 0x3F800000#32) (Ideal.sqrt (Ideal.ofBits .f32 0x40000000#32) * s)) (sc_eq (α := EReal) _ _ _)

/-- The second coordinates, scaled and padded: event `n` sits 2048 on. -/
theorem pre_y (n : ℕ) (hn : n < 32768) :
    (after preOps V (rf main_v20) : S34816.Idx → EReal) (ix 34816 (2048 + n)) = ob (kObs V) n 2 * scale (kS V) := by
  unfold preOps rf
  after_reads_simp
  have h0 : ((ix 32768 n) 0).val = n := Nat.mod_eq_of_lt hn
  refine (concatenate_pair_apply_right (t := S34816) (s₁ := S2048) (s₂ := S32768) 0 _ _ _ _ rfl rfl (ix 32768 n) (fun b hb => absurd (Subsingleton.elim _ _) hb) ?_).trans ?_
  · show ((ix 32768 n) 0).val + 2048 = (2048 + n) % 34816
    omega
  · refine congrArg₂ (fun a b : EReal => a * b) ((col_eq (kObs V) 2 _ _ (ix 32768 n)).trans (by rw [h0])) ?_
    exact congrArg (fun s : EReal => Ideal.div (Ideal.ofBits .f32 0x3F800000#32) (Ideal.sqrt (Ideal.ofBits .f32 0x40000000#32) * s)) (sc_eq (α := EReal) _ _ _)

/-- The weights: each of the thirty-two, sixteen times over. -/
theorem pre_w (k l : ℕ) (hk : k < 32) (hl : l < 16) :
    (after preOps V (rf main_v37) : S512.Idx → EReal) (ix 512 (16 * k + l)) = decay (kC V) (kB V) k * norm (kS V) := by
  unfold preOps rf
  after_reads_simp
  refine (shapeCast_apply (s := S32x16) (t := S512) _ _ _ (ValueIdx.ix2 ⟨k, hk⟩ ⟨l, hl⟩) ?_).trans ?_
  · rw [Shape.rowMajor_val_two, Shape.rowMajor_val_one]
    show k * 16 + l = (16 * k + l) % 512
    omega
  refine (broadcastInDim_apply (s := S32) (t := S32x16) _ _ _ _ (ValueIdx.ix1 ⟨k, hk⟩) (fun a => ?_)).trans ?_
  · match a with
    | 0 => rfl
  have e1 : ∀ h i, shapeCast main_v1.ty.shape (V (Proc.devRef .tc main_arg2)) h i = kC V := fun h i => sc_eq (α := EReal) _ _ i
  have e2 : ∀ h i, shapeCast main_v2.ty.shape (V (Proc.devRef .tc main_arg3)) h i = kB V := fun h i => sc_eq (α := EReal) _ _ i
  have e3 : ∀ h i, shapeCast main_v3.ty.shape (V (Proc.devRef .tc main_arg4)) h i = kS V := fun h i => sc_eq (α := EReal) _ _ i
  simp only [e1, e2, e3]
  have hi : (FloatOps.sitofp (F := Ideal) .f32 (BitVec.ofNat 32 k) : EReal) = ((k : ℝ) : EReal) := by
    show (((BitVec.ofNat 32 k).toInt : ℝ) : EReal) = _
    rw [toInt_ofNat_of_lt (by omega)]
    norm_cast
  show kC V * kB V * Ideal.exp (-kB V * (Ideal.ofBits .f32 0x3F800000#32 + FloatOps.sitofp (F := Ideal) .f32 (BitVec.ofNat 32 k))) * norm (kS V) = _
  rw [hi, Ideal.ofBits_one_f32, decay, EReal.coe_add, EReal.coe_one]

end Cert.Proof.E

end
-- ==== Proof.KerSums.lean ====
/-
  What the SparseCore's call leaves, at the ideal floats: the folds over registers and lanes as sums over events.
-/
module

public import proofs.«01_k».proof.Proof.PI.Tile
public import proofs.«01_k».proof.Proof.Reals

@[expose] public section

noncomputable section

namespace Cert.Proof.E

open Cert.KernelIdeal Cert.KernelIdeal.Gen Cert.Proof.PI
open Idealize.ShloMosaic

/-- One event's summand at another's place, at the ideal floats. -/
def summ (cx cy w x y : EReal) : EReal :=
  w * Ideal.exp (Ideal.ofBits .f32 0x00000000#32 - ((cx - x) * (cx - x) + (cy - y) * (cy - y)))

/-- A lane of a register is the register at the lane's index. -/
theorem lane_eq (x : FVec Ideal S16 .f32) (k : ℕ) (h : S16.Slices ![k] S1) (hk : k < 16) : lane x k h = x (ix 16 k) := by
  unfold lane extractAt extractStridedSlice
  refine congrArg x (funext fun a => Fin.ext ?_)
  match a with
  | 0 =>
    show k + 0 = k % 16
    rw [Nat.mod_eq_of_lt hk]; rfl

/-- An accumulator with one lane's summands added, at an index. -/
theorem acc1_eq (cx cy w xc yc a : FVec Ideal S16 .f32) (k : ℕ) (h : S16.Slices ![k] S1) (hk : k < 16) (i : S16.Idx) :
    acc1 cx cy w xc yc a k h i = a i + summ (cx i) (cy i) (w i) (xc (ix 16 k)) (yc (ix 16 k)) := by
  unfold acc1
  rw [lane_eq xc k h hk, lane_eq yc k h hk]
  rfl

/-- An accumulator with sixteen lanes' summands added is it plus their sum. -/
theorem acc16_eq (cx cy w xc yc a : FVec Ideal S16 .f32) (i : S16.Idx) :
    acc16 cx cy w xc yc a i = a i + ∑ l ∈ Finset.range 16, summ (cx i) (cy i) (w i) (xc (ix 16 l)) (yc (ix 16 l)) := by
  unfold acc16
  rw [acc1_eq _ _ _ _ _ _ 15 _ (by decide), acc1_eq _ _ _ _ _ _ 14 _ (by decide), acc1_eq _ _ _ _ _ _ 13 _ (by decide), acc1_eq _ _ _ _ _ _ 12 _ (by decide),
    acc1_eq _ _ _ _ _ _ 11 _ (by decide), acc1_eq _ _ _ _ _ _ 10 _ (by decide), acc1_eq _ _ _ _ _ _ 9 _ (by decide), acc1_eq _ _ _ _ _ _ 8 _ (by decide),
    acc1_eq _ _ _ _ _ _ 7 _ (by decide), acc1_eq _ _ _ _ _ _ 6 _ (by decide), acc1_eq _ _ _ _ _ _ 5 _ (by decide), acc1_eq _ _ _ _ _ _ 4 _ (by decide),
    acc1_eq _ _ _ _ _ _ 3 _ (by decide), acc1_eq _ _ _ _ _ _ 2 _ (by decide), acc1_eq _ _ _ _ _ _ 1 _ (by decide), acc1_eq _ _ _ _ _ _ 0 _ (by decide)]
  simp only [Finset.sum_range_succ, Finset.sum_range_zero, zero_add, add_assoc]

/-- A load at an index below sixteen. -/
theorem ld_eq {n : ℕ} [NeZero n] (X : (⟨1, ![n]⟩ : Shape).Idx → EReal) (o l : ℕ) (hl : l < 16) : ld n X o (ix 16 l) = X (ix n (o + l)) := by
  unfold ld
  rw [show ((ix 16 l) 0).val = l from Nat.mod_eq_of_lt hl]

/-- The fold over a day's registers is the sum over them. -/
theorem accJ_eq (cx cy w : FVec Ideal S16 .f32) (X Y : S3072.Idx → EReal) (b : ℕ) (a : FVec Ideal S16 .f32) (i : S16.Idx) (n : ℕ) :
    accJ cx cy w X Y b a n i = a i + ∑ e ∈ Finset.range (n * 16), summ (cx i) (cy i) (w i) (X (ix 3072 (b + e))) (Y (ix 3072 (b + e))) := by
  induction n with
  | zero => simp [accJ]
  | succ n ih =>
    rw [accJ, acc16_eq, ih, show (n + 1) * 16 = n * 16 + 16 by ring, Finset.sum_range_add, add_assoc]
    refine congrArg _ (congrArg _ (Finset.sum_congr rfl fun l hl => ?_))
    rw [ld_eq X _ l (Finset.mem_range.1 hl), ld_eq Y _ l (Finset.mem_range.1 hl), show b + 16 * n + l = b + (n * 16 + l) by ring]

/-- The fold over the days back is the sum over them. -/
theorem accK_eq (cx cy : FVec Ideal S16 .f32) (W : S512.Idx → EReal) (X Y : S3072.Idx → EReal) (b : ℕ) (a : FVec Ideal S16 .f32) (i : ℕ) (hi : i < 16) (n : ℕ) :
    accK cx cy W X Y b a n (ix 16 i)
      = a (ix 16 i) + ∑ k ∈ Finset.range n, ∑ e ∈ Finset.range 64,
          summ (cx (ix 16 i)) (cy (ix 16 i)) (W (ix 512 (16 * k + i))) (X (ix 3072 (b - 64 * k + e))) (Y (ix 3072 (b - 64 * k + e))) := by
  induction n with
  | zero => simp [accK]
  | succ n ih => rw [accK, accJ_eq, ih, Finset.sum_range_succ _ n, add_assoc, ld_eq W _ i hi]

/-- The call's result at event `e`: the sum over the days back, and the events of each. -/
theorem outVal_eq (X Y : S34816.Idx → EReal) (W : S512.Idx → EReal) (e : ℕ) (he : e < 32768) :
    outVal (F := Ideal) X Y W (ix 32768 e)
      = ∑ k ∈ Finset.range (min 32 (e / 64)), ∑ j ∈ Finset.range 64,
          summ (X (ix 34816 (2048 + e))) (Y (ix 34816 (2048 + e))) (W (ix 512 (16 * k + e % 16)))
            (X (ix 34816 (2048 + (64 * (e / 64 - 1 - k) + j)))) (Y (ix 34816 (2048 + (64 * (e / 64 - 1 - k) + j)))) := by
  have h0 : ((ix 32768 e) 0).val = e := Nat.mod_eq_of_lt he
  have h1 : ((ix 1024 (e % 1024)) 0).val = e % 1024 := Nat.mod_eq_of_lt (Nat.mod_lt _ (by decide))
  have hb : back (e / 1024) (e % 1024 / 64) = min 32 (e / 64) := by unfold back; omega
  have hix : ∀ (Z : S34816.Idx → EReal) (w p : ℕ), p < 3072 → win (F := Ideal) Z w (ix 3072 p) = Z (ix 34816 (1024 * w + p)) := fun Z w p hp => by
    unfold win; rw [show ((ix 3072 p) 0).val = p from Nat.mod_eq_of_lt hp]
  unfold outVal
  rw [h0]
  unfold tileVal
  rw [h1]
  unfold dayReg
  rw [accK_eq _ _ _ _ _ _ _ _ (Nat.mod_lt _ (by decide)), hb]
  rw [show (broadcast S16 (Scalar.ofBits (F := Ideal) .f32 0x00000000#32)) (ix 16 (e % 1024 % 16)) = Ideal.ofBits .f32 0x00000000#32 from rfl,
    Ideal.ofBits_zero_f32, zero_add]
  refine Finset.sum_congr rfl fun k hk => Finset.sum_congr rfl fun j hj => ?_
  have hk' := Finset.mem_range.1 hk
  have hj' := Finset.mem_range.1 hj
  rw [ld_eq _ _ _ (Nat.mod_lt _ (by decide)), ld_eq _ _ _ (Nat.mod_lt _ (by decide)), hix X _ _ (by omega), hix Y _ _ (by omega), hix X _ _ (by omega), hix Y _ _ (by omega)]
  rw [show 1024 * (e / 1024) + (64 * (e % 1024 / 64) + 16 * (e % 1024 % 64 / 16) + 2048 + e % 1024 % 16) = 2048 + e by omega,
    show 1024 * (e / 1024) + (64 * (e % 1024 / 64) + 1984 - 64 * k + j) = 2048 + (64 * (e / 64 - 1 - k) + j) by omega,
    show e % 1024 % 16 = e % 16 by omega]

end Cert.Proof.E

end
-- ==== Proof.Spec.lean ====
/-
  What both programs compute, event by event, over the extended reals.
-/
module

public import proofs.«01_k».proof.Proof.Reals
public import proofs.«01_k».proof.Proof.Cols

@[expose] public section

noncomputable section

namespace Cert.Proof.E

open Cert.Proof.PI
open Idealize.ShloMosaic

variable (obs : (⟨2, ![32768, 3]⟩ : Shape).Idx → EReal) (L c b σ : EReal)

/-- The spatial kernel of events `e` and `e'`. -/
def spa (e e' : ℕ) : EReal :=
  Ideal.div (Ideal.exp (Ideal.div (-((ob obs e 1 - ob obs e' 1) * (ob obs e 1 - ob obs e' 1) + (ob obs e 2 - ob obs e' 2) * (ob obs e 2 - ob obs e' 2)))
    (Ideal.ofBits .f32 0x40000000#32 * σ * σ))) (pi2 * σ * σ)

/-- What event `e` is excited by: the events of the thirty-two days before its own, as many as there are. -/
def excite (e : ℕ) : EReal :=
  ∑ k ∈ Finset.range (min 32 (e / 64)), ∑ j ∈ Finset.range 64, spa obs σ e (64 * (e / 64 - 1 - k) + j) * decay c b k

/-- The sum of the logarithms of the events' intensities. -/
def lams1 : EReal := ∑ e ∈ Finset.range 32768, Ideal.log (excite obs c b σ e + (L + Ideal.ofBits .f32 0x3727C5AC#32))

/-- The compensator: the background's, and each event's decay over the days that are left, at most thirty-two. -/
def lams2 : EReal :=
  L * ((512 : ℝ) : EReal) + ∑ e ∈ Finset.range 32768, ∑ i ∈ Finset.range (min 32 (511 - e / 64)), decay c b i

/-- The events of day `d + 1` are the rows `64 d` to `64 d + 63`. -/
def Days : Prop := ∀ e, e < 32768 → ob obs e 0 = ((e / 64 + 1 : ℕ) : ℝ)

/-- A sum over a vector's indices is the sum over the numbers below its length. -/
theorem sum_ix (n : ℕ) [NeZero n] (f : (⟨1, ![n]⟩ : Shape).Idx → EReal) : ∑ j, f j = ∑ e ∈ Finset.range n, f (ix n e) := by
  refine Finset.sum_bij' (fun j _ => (j 0).val) (fun e _ => ix n e) (fun j _ => Finset.mem_range.2 (j 0).isLt) (fun _ _ => Finset.mem_univ _) ?_ ?_ ?_
  · intro j _
    funext a
    match a with
    | 0 => exact Fin.ext (Nat.mod_eq_of_lt (j 0).isLt)
  · intro e he
    exact Nat.mod_eq_of_lt (Finset.mem_range.1 he)
  · intro j _
    refine congrArg f (funext fun a => ?_)
    match a with
    | 0 => exact Fin.ext (Nat.mod_eq_of_lt (j 0).isLt).symm

/-- A sum over a reshaped array is the sum over the array. -/
theorem sum_cast {s t : Shape} (h : s.ShapeCasts t) (f : s.Idx → EReal) : ∑ i, shapeCast t f h i = ∑ i, f i :=
  Fintype.sum_equiv (Shape.reshapeEquiv h) _ _ fun _ => rfl

end Cert.Proof.E

end
-- ==== Proof.KerTail.lean ====
/-
  What the TensorCore's call leaves, at the ideal floats: its sums, over a vector's indices.
-/
module

public import proofs.«01_k».proof.Proof.PI.Region
public import proofs.«01_k».proof.Proof.Spec

@[expose] public section

noncomputable section

namespace Cert.Proof.E

open Cert.KernelIdeal Cert.KernelIdeal.Gen Cert.Proof.PI
open Idealize.ShloMosaic

/-- The full sum of a tile, as the body takes it. -/
theorem tile_sum (f : S256x128.Idx → Ideal .f32) (h1 : S256x128.ShapeCasts S1x256x128) (h2 : S1x256x128.Reduces [1, 2] S1)
    (h3 : FKind.Formats FTy.f32) (h4 : 0#32 = FKind.add.neutral FTy.f32 h3) (h5 : S1.ShapeCasts S1x1x1) (h6 : ∀ a, ![0, 0, 0] a < S1x1x1.size a) :
    extractAt ![0, 0, 0] (shapeCast S1x1x1 (multiReduction .add [1, 2] S1 (shapeCast S1x256x128 f h1) (0#32) h2 h3 h4) h5) h6 = ∑ i, (f i : EReal) :=
  (Ideal.multiReduction_add_total _ _ h2 (fun b => by match b with | 0 => rfl) h3 h4 _).trans (sum_cast h1 f)

/-- The first sum, over the call's operand flattened. -/
theorem tc1 (kers : S32768.Idx → EReal) (h : S32768.ShapeCasts S256x128) (s : S3.Idx → EReal) :
    tcLams1 (F := Ideal) (shapeCast S256x128 kers h) s = ∑ e ∈ Finset.range 32768, Ideal.log (kers (ix 32768 e) + (s (ix 3 0) + Ideal.ofBits .f32 0x3727C5AC#32)) := by
  unfold tcLams1 k1_pay1
  refine (tile_sum _ _ _ _ _ _ _).trans ?_
  refine Eq.trans ?_ (sum_ix 32768 fun j => Ideal.log (kers j + (s (ix 3 0) + Ideal.ofBits .f32 0x3727C5AC#32)))
  rw [← sum_cast h]
  refine Finset.sum_congr rfl fun i _ => ?_
  rw [shapeCast_self]
  rfl

/-- The second sum, over the day column flattened. -/
theorem tc2 (days : S32768.Idx → EReal) (h : S32768.ShapeCasts S256x128) (s : S3.Idx → EReal) :
    tcLams2 (F := Ideal) (shapeCast S256x128 days h) s
      = s (ix 3 0) * Ideal.ofBits .f32 0x44000000#32
        + ∑ e ∈ Finset.range 32768, s (ix 3 2) * (Ideal.ofBits .f32 0x3F800000#32
            - Ideal.exp ((Ideal.ofBits .f32 0x00000000#32 - s (ix 3 1))
                * min (Ideal.ofBits .f32 0x42000000#32) (max (Ideal.ofBits .f32 0x00000000#32) (Ideal.ofBits .f32 0x44000000#32 - days (ix 32768 e))))) := by
  unfold tcLams2 k1_pay2
  refine congrArg (fun z : EReal => s (ix 3 0) * Ideal.ofBits .f32 0x44000000#32 + z) ?_
  refine (tile_sum _ _ _ _ _ _ _).trans ?_
  refine Eq.trans ?_ (sum_ix 32768 fun j => s (ix 3 2) * (Ideal.ofBits .f32 0x3F800000#32
            - Ideal.exp ((Ideal.ofBits .f32 0x00000000#32 - s (ix 3 1))
                * min (Ideal.ofBits .f32 0x42000000#32) (max (Ideal.ofBits .f32 0x00000000#32) (Ideal.ofBits .f32 0x44000000#32 - days j)))))
  rw [← sum_cast h]
  refine Finset.sum_congr rfl fun i _ => ?_
  rw [shapeCast_self]
  rfl

end Cert.Proof.E

end
-- ==== Proof.KerValue.lean ====
/-
  What the kernel's whole run leaves in its three results, at the ideal floats.
-/
module

public import proofs.«01_k».proof.Proof.KerReads
public import proofs.«01_k».proof.Proof.KerSums
public import proofs.«01_k».proof.Proof.KerTail

@[expose] public section

noncomputable section

namespace Cert.Proof.E

open Cert.KernelIdeal Cert.KernelIdeal.Gen Cert.Proof.PI
open Idealize.ShloMosaic Idealize.ShloMosaic.StableHlo

section
variable (V : Valuation τ sig (Elt Ideal))

/-- The operations that make the call's three scalars. -/
def scaOps {F : FTy → Type} [FloatOps F] : List (HloOp τ sig (Elt F)) := [
    StableHlo.unary main_v2 main_v39 (Host.negf : (⟨S_, .f32⟩ : BufTy).Contents (Elt F) → (⟨S_, .f32⟩ : BufTy).Contents (Elt F)),
    StableHlo.unary main_v39 main_v40 (Host.exp : (⟨S_, .f32⟩ : BufTy).Contents (Elt F) → (⟨S_, .f32⟩ : BufTy).Contents (Elt F)),
    StableHlo.binary main_v1 main_v2 main_v41 (mulf : (⟨S_, .f32⟩ : BufTy).Contents (Elt F) → (⟨S_, .f32⟩ : BufTy).Contents (Elt F) → (⟨S_, .f32⟩ : BufTy).Contents (Elt F)),
    StableHlo.binary main_v41 main_v40 main_v42 (mulf : (⟨S_, .f32⟩ : BufTy).Contents (Elt F) → (⟨S_, .f32⟩ : BufTy).Contents (Elt F) → (⟨S_, .f32⟩ : BufTy).Contents (Elt F)),
    StableHlo.nullary main_cst_5 (constant S_ .f32 0x3F800000#32),
    StableHlo.binary main_cst_5 main_v40 main_v43 (subf : (⟨S_, .f32⟩ : BufTy).Contents (Elt F) → (⟨S_, .f32⟩ : BufTy).Contents (Elt F) → (⟨S_, .f32⟩ : BufTy).Contents (Elt F)),
    StableHlo.binary main_v42 main_v43 main_v44 (Host.divf : (⟨S_, .f32⟩ : BufTy).Contents (Elt F) → (⟨S_, .f32⟩ : BufTy).Contents (Elt F) → (⟨S_, .f32⟩ : BufTy).Contents (Elt F)),
    StableHlo.unary main_v0 main_v45 (broadcastInDim S1 ![] bcast_S_S1 : (⟨S_, .f32⟩ : BufTy).Contents (Elt F) → (⟨S1, .f32⟩ : BufTy).Contents (Elt F)),
    StableHlo.unary main_v2 main_v46 (broadcastInDim S1 ![] bcast_S_S1 : (⟨S_, .f32⟩ : BufTy).Contents (Elt F) → (⟨S1, .f32⟩ : BufTy).Contents (Elt F)),
    StableHlo.unary main_v44 main_v47 (broadcastInDim S1 ![] bcast_S_S1 : (⟨S_, .f32⟩ : BufTy).Contents (Elt F) → (⟨S1, .f32⟩ : BufTy).Contents (Elt F))
  ]

/-- The operations that lay them out, and the call's two tiles. -/
def layOps {F : FTy → Type} [FloatOps F] : List (HloOp τ sig (Elt F)) := [
    StableHlo.nary ![main_v45, main_v46, main_v47] main_v48 (fun u => (concatenate S3 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩] concatenates_S1_S1_S1_S3_d0 : (⟨S3, .f32⟩ : BufTy).Contents (Elt F))),
    StableHlo.reshape main_v38 main_v49 (rfl : (.f32 : EltTy) = .f32) shapeCasts_S32768_S256x128,
    StableHlo.reshape main_v5 main_v50 (rfl : (.f32 : EltTy) = .f32) shapeCasts_S32768_S256x128
  ]

/-- The operations in between are those, in turn. -/
theorem mid_split : after (midOps (F := Ideal)) V = after layOps (after (scaOps (F := Ideal)) V) := rfl

/-- Three pieces of one, end to end. -/
theorem three (x y z : S1.Idx → EReal) (h : Shape.Concatenates [S1, S1, S1] S3 0) :
    concatenate S3 0 [⟨S1, x⟩, ⟨S1, y⟩, ⟨S1, z⟩] h (ix 3 0) = x (ix 1 0) ∧ concatenate S3 0 [⟨S1, x⟩, ⟨S1, y⟩, ⟨S1, z⟩] h (ix 3 1) = y (ix 1 0)
      ∧ concatenate S3 0 [⟨S1, x⟩, ⟨S1, y⟩, ⟨S1, z⟩] h (ix 3 2) = z (ix 1 0) :=
  ⟨concatenate_apply_piece (t := S3) 0 [⟨S1, x⟩, ⟨S1, y⟩, ⟨S1, z⟩] h (ix 3 0) 0 (by simp) S1 x rfl rfl 0 rfl (ix 1 0) (fun b hb => absurd (Subsingleton.elim _ _) hb) rfl,
   concatenate_apply_piece (t := S3) 0 [⟨S1, x⟩, ⟨S1, y⟩, ⟨S1, z⟩] h (ix 3 1) 1 (by simp) S1 y rfl rfl 1 rfl (ix 1 0) (fun b hb => absurd (Subsingleton.elim _ _) hb) rfl,
   concatenate_apply_piece (t := S3) 0 [⟨S1, x⟩, ⟨S1, y⟩, ⟨S1, z⟩] h (ix 3 2) 2 (by simp) S1 z rfl rfl 2 rfl (ix 1 0) (fun b hb => absurd (Subsingleton.elim _ _) hb) rfl⟩

/-- The call's three scalars are laid out in order. -/
theorem lay_48 : (after (layOps (F := Ideal)) V (rf main_v48) : S3.Idx → EReal) (ix 3 0) = (V (rf main_v45) : S1.Idx → EReal) (ix 1 0)
    ∧ (after (layOps (F := Ideal)) V (rf main_v48) : S3.Idx → EReal) (ix 3 1) = (V (rf main_v46) : S1.Idx → EReal) (ix 1 0)
    ∧ (after (layOps (F := Ideal)) V (rf main_v48) : S3.Idx → EReal) (ix 3 2) = (V (rf main_v47) : S1.Idx → EReal) (ix 1 0) := by
  unfold layOps rf
  refine ⟨?_, ?_, ?_⟩
  · after_reads_simp
    exact (three _ _ _ _).1
  · after_reads_simp
    exact (three _ _ _ _).2.1
  · after_reads_simp
    exact (three _ _ _ _).2.2

/-- The scalars: the background rate, the rate of decay, and the excitation's weight over the days. -/
theorem sca_45 : (after (scaOps (F := Ideal)) V (rf main_v45) : S1.Idx → EReal) (ix 1 0) = (V (rf main_v0) : S_.Idx → EReal) ValueIdx.ix0 := by
  unfold scaOps rf
  after_reads_simp
  exact congrArg (V (Proc.devRef .tc main_v0) : S_.Idx → EReal) (ValueIdx.eq_ix0 _)
/-- The second scalar is the rate of decay. -/
theorem sca_46 : (after (scaOps (F := Ideal)) V (rf main_v46) : S1.Idx → EReal) (ix 1 0) = (V (rf main_v2) : S_.Idx → EReal) ValueIdx.ix0 := by
  unfold scaOps rf
  after_reads_simp
  exact congrArg (V (Proc.devRef .tc main_v2) : S_.Idx → EReal) (ValueIdx.eq_ix0 _)
/-- The third scalar is the weight of a geometric sum of decays: the first decay over one less the ratio. -/
theorem sca_47 (c b : EReal) (hc : (V (rf main_v1) : S_.Idx → EReal) = fun _ => c) (hb : (V (rf main_v2) : S_.Idx → EReal) = fun _ => b) :
    (after (scaOps (F := Ideal)) V (rf main_v47) : S1.Idx → EReal) (ix 1 0)
      = Ideal.div (c * b * Ideal.exp (-b)) (Ideal.ofBits .f32 0x3F800000#32 - Ideal.exp (-b)) := by
  unfold rf at hc hb
  unfold scaOps rf
  after_reads_simp
  simp only [hc, hb]
  rfl

/-- The call's first operand is the sums, as a tile. -/
theorem mid_49 : after midOps V (rf main_v49) = (shapeCast S256x128 (V (rf main_v38) : S32768.Idx → EReal) shapeCasts_S32768_S256x128 : S256x128.Idx → EReal) := by
  unfold midOps rf
  after_reads_simp
  rfl

/-- The call's second operand is the days, as a tile. -/
theorem mid_50 : after midOps V (rf main_v50) = (shapeCast S256x128 (V (rf main_v5) : S32768.Idx → EReal) shapeCasts_S32768_S256x128 : S256x128.Idx → EReal) := by
  unfold midOps rf
  after_reads_simp
  rfl

/-- There is one index into a tile of one. -/
theorem one_one (i : S1x1.Idx) : i = ValueIdx.ix2 0 0 := by
  funext a
  match a with
  | 0 => exact Subsingleton.elim (α := Fin 1) _ _
  | 1 => exact Subsingleton.elim (α := Fin 1) _ _

/-- Result 0, as a scalar. -/
theorem tail_52 (i : S_.Idx) : (after tailOps V (rf main_v52) : S_.Idx → EReal) i = (V (rf main_v51_0) : S1x1.Idx → EReal) (ValueIdx.ix2 0 0) := by
  unfold tailOps rf
  after_reads_simp
  exact congrArg (V (Proc.devRef .tc main_v51_0) : S1x1.Idx → EReal) (one_one _)

/-- Result 1, as a scalar. -/
theorem tail_53 (i : S_.Idx) : (after tailOps V (rf main_v53) : S_.Idx → EReal) i = (V (rf main_v51_1) : S1x1.Idx → EReal) (ValueIdx.ix2 0 0) := by
  unfold tailOps rf
  after_reads_simp
  exact congrArg (V (Proc.devRef .tc main_v51_1) : S1x1.Idx → EReal) (one_one _)

/-- Result 2, as a scalar. -/
theorem tail_54 (i : S_.Idx) : (after tailOps V (rf main_v54) : S_.Idx → EReal) i = (V (rf main_v51_2) : S1x1.Idx → EReal) (ValueIdx.ix2 0 0) := by
  unfold tailOps rf
  after_reads_simp
  exact congrArg (V (Proc.devRef .tc main_v51_2) : S1x1.Idx → EReal) (one_one _)

/-- Before the calls, the background rate. -/
theorem pre_v0 : (after preOps V (rf main_v0) : S_.Idx → EReal) = fun _ => kLam V := by
  unfold preOps rf
  after_reads_simp
  exact funext fun i => sc_eq (α := EReal) _ _ i

/-- Before the calls, the excitation's weight. -/
theorem pre_v1 : (after preOps V (rf main_v1) : S_.Idx → EReal) = fun _ => kC V := by
  unfold preOps rf
  after_reads_simp
  exact funext fun i => sc_eq (α := EReal) _ _ i

/-- Before the calls, its rate of decay. -/
theorem pre_v2 : (after preOps V (rf main_v2) : S_.Idx → EReal) = fun _ => kB V := by
  unfold preOps rf
  after_reads_simp
  exact funext fun i => sc_eq (α := EReal) _ _ i

/-- The days. -/
theorem pre_v5 (j : S32768.Idx) : (after preOps V (rf main_v5) : S32768.Idx → EReal) j = ob (kObs V) (j 0).val 0 := by
  unfold preOps rf
  after_reads_simp
  exact col_eq (kObs V) 0 _ _ j

end

section
variable (m : (ℓ : Loc nD τ sig) → Buf (Elt Ideal) ℓ) (d : Dev nD)

/-- What the SparseCore's call leaves alone. -/
theorem V2_ne (r : Ref sig .tc) (h : r ≠ main_v38) : V2 m d (rf r) = V1 m d (rf r) :=
  Function.update_of_ne (StableHlo.devRef_ne_of_ne h) _ _

/-- The SparseCore's sums are what the events are excited by. -/
theorem ker_eq (hσ : kS (V0 m d) ≠ 0) (e : ℕ) (he : e < 32768) :
    (V2 m d (rf main_v38) : S32768.Idx → EReal) (ix 32768 e) = excite (kObs (V0 m d)) (kC (V0 m d)) (kB (V0 m d)) (kS (V0 m d)) e := by
  have h0 : V2 m d (rf main_v38) = outVal (XV m d) (YV m d) (WV m d) := Function.update_self _ _ _
  rw [h0]
  refine (outVal_eq _ _ _ e he).trans ?_
  refine Finset.sum_congr rfl fun k hk => Finset.sum_congr rfl fun j hj => ?_
  have hk' := Finset.mem_range.1 hk
  have hj' := Finset.mem_range.1 hj
  have hX : ∀ n, n < 32768 → (XV m d : S34816.Idx → EReal) (ix 34816 (2048 + n)) = ob (kObs (V0 m d)) n 1 * scale (kS (V0 m d)) := fun n hn => pre_x (V0 m d) n hn
  have hY : ∀ n, n < 32768 → (YV m d : S34816.Idx → EReal) (ix 34816 (2048 + n)) = ob (kObs (V0 m d)) n 2 * scale (kS (V0 m d)) := fun n hn => pre_y (V0 m d) n hn
  have hW : (WV m d : S512.Idx → EReal) (ix 512 (16 * k + e % 16)) = decay (kC (V0 m d)) (kB (V0 m d)) k * norm (kS (V0 m d)) :=
    pre_w (V0 m d) k (e % 16) (by omega) (by omega)
  have hn : 64 * (e / 64 - 1 - k) + j < 32768 := by omega
  rw [hX e he, hY e he, hX _ hn, hY _ hn, hW]
  exact summand _ _ _ _ _ _ hσ

/-- The days the events have left, at most thirty-two. -/
theorem left_eq (e : ℕ) (he : e < 32768) :
    min (Ideal.ofBits .f32 0x42000000#32) (max (Ideal.ofBits .f32 0x00000000#32) (Ideal.ofBits .f32 0x44000000#32 - (((e / 64 + 1 : ℕ) : ℝ) : EReal)))
      = (((min 32 (511 - e / 64) : ℕ) : ℝ) : EReal) := by
  have h1 : ((512 : ℝ) - ((e / 64 + 1 : ℕ) : ℝ)) = ((511 - e / 64 : ℕ) : ℝ) := by
    rw [Nat.cast_sub (by omega)]
    push_cast
    ring
  rw [bits_32, bits_512, Ideal.ofBits_zero_f32, ← EReal.coe_sub, h1, max_eq_right (EReal.coe_nonneg.2 (Nat.cast_nonneg _))]
  rw [Nat.cast_min]
  exact (EReal.coe_strictMono.monotone.map_min (a := ((32 : ℕ) : ℝ)) (b := ((511 - e / 64 : ℕ) : ℝ))).symm

/-- The call's scalars. -/
theorem sc_0 : (V3 m d (rf main_v48) : S3.Idx → EReal) (ix 3 0) = kLam (V0 m d) := by
  have h := congrFun (pre_v0 (V0 m d)) ValueIdx.ix0
  refine Eq.trans ?_ h
  refine (congrArg (fun W => (W (rf main_v48) : S3.Idx → EReal) (ix 3 0)) (mid_split (V2 m d))).trans ?_
  refine ((lay_48 _).1.trans (sca_45 _)).trans ?_
  exact congrArg (fun f : S_.Idx → EReal => f ValueIdx.ix0) (V2_ne m d main_v0 (by decide))
/-- The TensorCore call's second scalar is the rate of decay. -/
theorem sc_1 : (V3 m d (rf main_v48) : S3.Idx → EReal) (ix 3 1) = kB (V0 m d) := by
  have h := congrFun (pre_v2 (V0 m d)) ValueIdx.ix0
  refine Eq.trans ?_ h
  refine (congrArg (fun W => (W (rf main_v48) : S3.Idx → EReal) (ix 3 1)) (mid_split (V2 m d))).trans ?_
  refine ((lay_48 _).2.1.trans (sca_46 _)).trans ?_
  exact congrArg (fun f : S_.Idx → EReal => f ValueIdx.ix0) (V2_ne m d main_v2 (by decide))
/-- Its third is the first decay over one less the ratio. -/
theorem sc_2 : (V3 m d (rf main_v48) : S3.Idx → EReal) (ix 3 2)
    = Ideal.div (kC (V0 m d) * kB (V0 m d) * Ideal.exp (-kB (V0 m d))) (Ideal.ofBits .f32 0x3F800000#32 - Ideal.exp (-kB (V0 m d))) := by
  refine (congrArg (fun W => (W (rf main_v48) : S3.Idx → EReal) (ix 3 2)) (mid_split (V2 m d))).trans ?_
  exact (lay_48 _).2.2.trans (sca_47 _ _ _ ((V2_ne m d main_v1 (by decide)).trans (pre_v1 (V0 m d))) ((V2_ne m d main_v2 (by decide)).trans (pre_v2 (V0 m d))))

/-- The first sum is the sum of the logarithms of the intensities. -/
theorem ker_lams1 (hσ : kS (V0 m d) ≠ 0) : tcLams1 (F := Ideal) (stg0 (U3 m) d) (stg2 (U3 m) d)
    = lams1 (kObs (V0 m d)) (kLam (V0 m d)) (kC (V0 m d)) (kB (V0 m d)) (kS (V0 m d)) := by
  rw [stg0_eq, stg2_eq]
  have h49 : U3 m d main_v49 = (shapeCast S256x128 (V2 m d (rf main_v38) : S32768.Idx → EReal) shapeCasts_S32768_S256x128 : S256x128.Idx → EReal) := mid_49 (V2 m d)
  rw [h49, tc1]
  refine Finset.sum_congr rfl fun e he => ?_
  have h0 : (U3 m d main_v48 : S3.Idx → EReal) (ix 3 0) = kLam (V0 m d) := sc_0 m d
  rw [ker_eq m d hσ e (Finset.mem_range.1 he), h0]

/-- The second sum is the compensator. -/
theorem ker_lams2 (hb : kB (V0 m d) ≠ ⊥) (hd : Days (kObs (V0 m d))) : tcLams2 (F := Ideal) (stg1 (U3 m) d) (stg2 (U3 m) d)
    = lams2 (kLam (V0 m d)) (kC (V0 m d)) (kB (V0 m d)) := by
  rw [stg1_eq, stg2_eq]
  have h50 : U3 m d main_v50 = (shapeCast S256x128 (V2 m d (rf main_v5) : S32768.Idx → EReal) shapeCasts_S32768_S256x128 : S256x128.Idx → EReal) := mid_50 (V2 m d)
  have h0 : (U3 m d main_v48 : S3.Idx → EReal) (ix 3 0) = kLam (V0 m d) := sc_0 m d
  have h1 : (U3 m d main_v48 : S3.Idx → EReal) (ix 3 1) = kB (V0 m d) := sc_1 m d
  have h2 : (U3 m d main_v48 : S3.Idx → EReal) (ix 3 2) = _ := sc_2 m d
  rw [h50, tc2, h0, h1, h2, bits_512]
  refine congrArg (fun z : EReal => kLam (V0 m d) * ((512 : ℝ) : EReal) + z) (Finset.sum_congr rfl fun e he => ?_)
  have he' := Finset.mem_range.1 he
  have hv : (V2 m d (rf main_v5) : S32768.Idx → EReal) (ix 32768 e) = (((e / 64 + 1 : ℕ) : ℝ) : EReal) := by
    have hx : V2 m d (rf main_v5) = V1 m d (rf main_v5) := V2_ne m d main_v5 (by decide)
    have hy : (V1 m d (rf main_v5) : S32768.Idx → EReal) (ix 32768 e) = ob (kObs (V0 m d)) ((ix 32768 e) 0).val 0 := pre_v5 (V0 m d) (ix 32768 e)
    have hz : ((ix 32768 e) 0).val = e := Nat.mod_eq_of_lt he'
    rw [hx, hy, hz]
    exact hd e he'
  rw [hv, ← bits_512, left_eq e he']
  exact decay_sum _ _ hb _

/-- The kernel's three results. -/
theorem ker_52 (hσ : kS (V0 m d) ≠ 0) (hb : kB (V0 m d) ≠ ⊥) (hd : Days (kObs (V0 m d))) :
    (V5 m d (rf main_v52) : S_.Idx → EReal) = fun _ => lams1 (kObs (V0 m d)) (kLam (V0 m d)) (kC (V0 m d)) (kB (V0 m d)) (kS (V0 m d))
      - lams2 (kLam (V0 m d)) (kC (V0 m d)) (kB (V0 m d)) := by
  funext i
  have h : (V4 m d (rf main_v51_0) : S1x1.Idx → EReal) = fun _ => tcLams1 (F := Ideal) (stg0 (U3 m) d) (stg2 (U3 m) d) - tcLams2 (F := Ideal) (stg1 (U3 m) d) (stg2 (U3 m) d) := by
    refine Eq.trans ?_ (arr_ll (U3 m) d)
    exact Function.update_self _ _ _
  refine (tail_52 (V4 m d) i).trans ?_
  rw [h, ker_lams1 m d hσ, ker_lams2 m d hb hd]
/-- The kernel's second result is the sum of the logarithms of the intensities. -/
theorem ker_53 (hσ : kS (V0 m d) ≠ 0) :
    (V5 m d (rf main_v53) : S_.Idx → EReal) = fun _ => lams1 (kObs (V0 m d)) (kLam (V0 m d)) (kC (V0 m d)) (kB (V0 m d)) (kS (V0 m d)) := by
  funext i
  have h : (V4 m d (rf main_v51_1) : S1x1.Idx → EReal) = fun _ => tcLams1 (F := Ideal) (stg0 (U3 m) d) (stg2 (U3 m) d) := by
    refine Eq.trans ?_ (arr_lams1 (U3 m) d)
    exact (Function.update_of_ne (StableHlo.devRef_ne_of_ne (by decide)) _ _).trans (Function.update_self _ _ _)
  refine (tail_53 (V4 m d) i).trans ?_
  rw [h, ker_lams1 m d hσ]
/-- The kernel's third result is the compensator. -/
theorem ker_54 (hb : kB (V0 m d) ≠ ⊥) (hd : Days (kObs (V0 m d))) :
    (V5 m d (rf main_v54) : S_.Idx → EReal) = fun _ => lams2 (kLam (V0 m d)) (kC (V0 m d)) (kB (V0 m d)) := by
  funext i
  have h : (V4 m d (rf main_v51_2) : S1x1.Idx → EReal) = fun _ => tcLams2 (F := Ideal) (stg1 (U3 m) d) (stg2 (U3 m) d) := by
    refine Eq.trans ?_ (arr_lams2 (U3 m) d)
    exact (Function.update_of_ne (StableHlo.devRef_ne_of_ne (by decide)) _ _).trans ((Function.update_of_ne (StableHlo.devRef_ne_of_ne (by decide)) _ _).trans (Function.update_self _ _ _))
  refine (tail_54 (V4 m d) i).trans ?_
  rw [h, ker_lams2 m d hb hd]

end

end Cert.Proof.E

end
-- ==== Proof.R.Slices.lean ====
/-
  One trip of the reference's loop: its window of history, its mask and its own day's events, as rows of what the
  loop carries.
-/
module

public import proofs.«01_k».proof.Proof.R.Kept
public import proofs.«01_k».proof.Proof.Spec
public import Idealize.ShloMosaic.Lib.DynamicIndex

@[expose] public section

noncomputable section

namespace Cert.Proof.R

open Cert.ReferenceIdeal Cert.ReferenceIdeal.Gen Cert.ReferenceIdeal.Value
open Idealize.ShloMosaic Idealize.ShloMosaic.StableHlo
open Cert.Proof.PI (ix)

section
variable {α : Type}

/-- Thirty-two rows of the padded events, flattened. -/
theorem cut_hist (x : S544x64x3.Idx → α) (st : Fin 3 → Int) (k : ℕ) (hk : k < 512) (hs : ∀ i, st i = ((![k, 0, 0] : Fin 3 → ℕ) i : Int))
    (h : S544x64x3.Slices (fun _ => 0) S32x64x3) (h' : S32x64x3.ShapeCasts S2048x3) (q : Fin 2048) (a : Fin 3) :
    shapeCast S2048x3 (Host.dynamicSlice S32x64x3 x st h) h' (ValueIdx.ix2 q a)
      = x (ValueIdx.ix3 ⟨k + q.val / 64, by omega⟩ ⟨q.val % 64, by omega⟩ a) := by
  rw [shapeCast_apply _ h' _ (ValueIdx.ix3 ⟨q.val / 64, by omega⟩ ⟨q.val % 64, by omega⟩ a) (by
    rw [Shape.rowMajor_val_three, Shape.rowMajor_val_two]
    show (q.val / 64 * 64 + q.val % 64) * 3 + a.val = q.val * 3 + a.val
    omega)]
  rw [Host.dynamicSlice_eq_extractStridedSlice S32x64x3 x st ![k, 0, 0] h ⟨rfl, fun b => by
    match b with
    | 0 => show k + 32 ≤ 544; omega
    | 1 => show 0 + 64 ≤ 64; omega
    | 2 => show 0 + 3 ≤ 3; omega⟩ hs]
  unfold extractStridedSlice
  refine congrArg x (funext fun b => Fin.ext ?_)
  match b with
  | 0 => rfl
  | 1 => exact Nat.zero_add _
  | 2 => exact Nat.zero_add _

/-- Thirty-two rows of the mask, flattened. -/
theorem cut_mask (x : S544x64.Idx → α) (st : Fin 2 → Int) (k : ℕ) (hk : k < 512) (hs : ∀ i, st i = ((![k, 0] : Fin 2 → ℕ) i : Int))
    (h : S544x64.Slices (fun _ => 0) S32x64) (h' : S32x64.ShapeCasts S2048) (q : Fin 2048) :
    shapeCast S2048 (Host.dynamicSlice S32x64 x st h) h' (ValueIdx.ix1 q)
      = x (ValueIdx.ix2 ⟨k + q.val / 64, by omega⟩ ⟨q.val % 64, by omega⟩) := by
  rw [shapeCast_apply _ h' _ (ValueIdx.ix2 ⟨q.val / 64, by omega⟩ ⟨q.val % 64, by omega⟩) (by
    rw [Shape.rowMajor_val_two, Shape.rowMajor_val_one]
    show q.val / 64 * 64 + q.val % 64 = q.val
    omega)]
  rw [Host.dynamicSlice_eq_extractStridedSlice S32x64 x st ![k, 0] h ⟨rfl, fun b => by
    match b with
    | 0 => show k + 32 ≤ 544; omega
    | 1 => show 0 + 64 ≤ 64; omega⟩ hs]
  unfold extractStridedSlice
  refine congrArg x (funext fun b => Fin.ext ?_)
  match b with
  | 0 => rfl
  | 1 => exact Nat.zero_add _

/-- One day's events. -/
theorem cut_cur (x : S512x64x3.Idx → α) (st : Fin 3 → Int) (k : ℕ) (hk : k < 512) (hs : ∀ i, st i = ((![k, 0, 0] : Fin 3 → ℕ) i : Int))
    (h : S512x64x3.Slices (fun _ => 0) S1x64x3) (h' : S1x64x3.ShapeCasts S64x3) (r : Fin 64) (a : Fin 3) :
    shapeCast S64x3 (Host.dynamicSlice S1x64x3 x st h) h' (ValueIdx.ix2 r a) = x (ValueIdx.ix3 ⟨k, hk⟩ r a) := by
  rw [shapeCast_apply _ h' _ (ValueIdx.ix3 0 r a) (by
    rw [Shape.rowMajor_val_three, Shape.rowMajor_val_two]
    show (0 * 64 + r.val) * 3 + a.val = r.val * 3 + a.val
    omega)]
  rw [Host.dynamicSlice_eq_extractStridedSlice S1x64x3 x st ![k, 0, 0] h ⟨rfl, fun b => by
    match b with
    | 0 => show k + 1 ≤ 512; omega
    | 1 => show 0 + 64 ≤ 64; omega
    | 2 => show 0 + 3 ≤ 3; omega⟩ hs]
  unfold extractStridedSlice
  refine congrArg x (funext fun b => Fin.ext ?_)
  match b with
  | 0 => rfl
  | 1 => exact Nat.zero_add _
  | 2 => exact Nat.zero_add _

/-- One number. -/
theorem cut_day (x : S512.Idx → α) (st : Fin 1 → Int) (k : ℕ) (hk : k < 512) (hs : ∀ i, st i = ((![k] : Fin 1 → ℕ) i : Int))
    (h : S512.Slices (fun _ => 0) S1) (h' : S1.ShapeCasts S_) (j : S_.Idx) :
    shapeCast S_ (Host.dynamicSlice S1 x st h) h' j = x (ix 512 k) := by
  rw [Host.dynamicSlice_eq_extractStridedSlice S1 x st ![k] h ⟨rfl, fun b => by
    match b with
    | 0 => show k + 1 ≤ 512; omega⟩ hs]
  refine (E.sc_eq _ _ j).trans ?_
  unfold E.sc extractStridedSlice
  refine congrArg x (funext fun b => Fin.ext ?_)
  match b with
  | 0 =>
    show k + 0 % 1 = k % 512
    rw [Nat.mod_eq_of_lt hk]
    rfl

/-- One number put in its place. -/
theorem put_day (x : S512.Idx → α) (u : S1.Idx → α) (st : Fin 1 → Int) (k : ℕ) (hk : k < 512) (hs : ∀ i, st i = ((![k] : Fin 1 → ℕ) i : Int))
    (h : S512.Slices (fun _ => 0) S1) (i : ℕ) (hi : i < 512) :
    Host.dynamicUpdateSlice x u st h (ix 512 i) = if i = k then u (ix 1 0) else x (ix 512 i) := by
  rw [Host.dynamicUpdateSlice_eq_updateSlice x u st h ![k] (fun a => by
    rw [hs a]
    match a with
    | 0 =>
      show (min (max (k : Int) 0) ((512 - 1 : ℕ) : Int)).toNat = k
      omega) ⟨rfl, fun b => by
    match b with
    | 0 => show k + 1 ≤ 512; omega⟩]
  have hv : ((ix 512 i) 0).val = i := Nat.mod_eq_of_lt hi
  unfold updateSlice
  split_ifs with hin he he
  · refine congrArg u (funext fun b => Fin.ext ?_)
    match b with
    | 0 =>
      show ((ix 512 i) 0).val - k = 0 % 1
      omega
  · have h0 := hin 0
    have e1 : ((ix 512 i) 0).val < k + 1 := h0.2
    have e2 : k ≤ ((ix 512 i) 0).val := h0.1
    omega
  · refine absurd (fun a => ?_) hin
    match a with
    | 0 =>
      refine ⟨?_, ?_⟩
      · show k ≤ ((ix 512 i) 0).val
        omega
      · show ((ix 512 i) 0).val < k + 1
        omega
  · rfl

end

end Cert.Proof.R

end
-- ==== Proof.R.Trip.lean ====
/-
  One trip of the reference's loop at the ideal floats: the term it adds.
-/
module

public import proofs.«01_k».proof.Proof.R.Slices
public import Idealize.ShloMosaic.Lib.Pointwise

@[expose] public section

noncomputable section

namespace Cert.Proof.R

open Cert.ReferenceIdeal Cert.ReferenceIdeal.Gen Cert.ReferenceIdeal.Value
open Idealize.ShloMosaic Idealize.ShloMosaic.StableHlo
open Cert.Proof.PI (ix)

/-- The spatial kernels of a day against its history, from the differences. -/
def spaT (D : FVec Ideal S64x2048x2 .f32) (σ : FVec Ideal S_ .f32) : FVec Ideal S64x2048 .f32 :=
  Host.divf (Host.exp (Host.divf (Host.negf (Host.reduceAdd (mulf D D) (constant S_ .f32 0x00000000#32) reducesTo_S64x2048x2_S64x2048_d2 h_S_)) (broadcastInDim S64x2048 ![] bcast_S_S64x2048 (mulf (mulf (constant S_ .f32 0x40000000#32) σ) σ)))) (broadcastInDim S64x2048 ![] bcast_S_S64x2048 (mulf (mulf (constant S_ .f32 0x40C90FDB#32) σ) σ))

/-- The spatial kernel of an event of the day and one of the history. -/
theorem spaT_apply (D : FVec Ideal S64x2048x2 .f32) (s : EReal) (r : Fin 64) (q : Fin 2048) :
    spaT D (fun _ => s) (ValueIdx.ix2 r q) = Ideal.div (Ideal.exp (Ideal.div (-(D (ValueIdx.ix3 r q 0) * D (ValueIdx.ix3 r q 0) + D (ValueIdx.ix3 r q 1) * D (ValueIdx.ix3 r q 1)))
      (Ideal.ofBits .f32 0x40000000#32 * s * s))) (E.pi2 * s * s) := by
  pointwise [spaT]
  rw [Fin.sum_univ_two]
  rfl

/-- A day's term, from the spatial kernels and the history's weights. -/
def termT (A : FVec Ideal S64x2048 .f32) (g : FVec Ideal S2048 .f32) (L : FVec Ideal S_ .f32) : FVec Ideal S_ .f32 :=
  Host.reduceAdd (Host.log (addf (addf (Host.dotGeneral dot_S64x2048_S2048_S64_1_0_0_n_n_n none A g) (broadcastInDim S64 ![] bcast_S_S64 L)) (broadcastInDim S64 ![] bcast_S_S64 (constant S_ .f32 0x3727C5AC#32)))) (constant S_ .f32 0x00000000#32) reducesTo_S64_S_d0 h_S_

/-- A day's term is the sum, over its events, of the logarithm of the intensity. -/
theorem termT_apply (A : FVec Ideal S64x2048 .f32) (g : FVec Ideal S2048 .f32) (L : EReal) (j : S_.Idx) :
    termT A g (fun _ => L) j = ∑ r : Fin 64, Ideal.log ((∑ q : Fin 2048, A (ValueIdx.ix2 r q) * g (ValueIdx.ix1 q)) + L + Ideal.ofBits .f32 0x3727C5AC#32) := by
  pointwise [termT]
  rfl

/-- The history's weights. -/
def gT (c b ts : FVec Ideal S_ .f32) (H : FVec Ideal S2048x3 .f32) (M : FVec Ideal S2048 .f32) : FVec Ideal S2048 .f32 :=
  mulf (mulf (broadcastInDim S2048 ![] bcast_S_S2048 (mulf c b)) (Host.exp (mulf (broadcastInDim S2048 ![] bcast_S_S2048 (Host.negf b)) (subf (broadcastInDim S2048 ![] bcast_S_S2048 ts) (shapeCast S2048 (extractStridedSlice S2048x1 ![0, 0] H slices_S2048x3_S2048x1_0_0) shapeCasts_S2048x1_S2048))))) M

/-- The weight of an event of the history: its decay, or zero where the mask is. -/
theorem gT_apply (c b ts : EReal) (H : FVec Ideal S2048x3 .f32) (M : FVec Ideal S2048 .f32) (q : Fin 2048) :
    gT (fun _ => c) (fun _ => b) (fun _ => ts) H M (ValueIdx.ix1 q) = c * b * Ideal.exp (-b * (ts - H (ValueIdx.ix2 q 0))) * M (ValueIdx.ix1 q) := by
  pointwise [gT]
  rfl

/-- The differences of a day's places and its history's. -/
def diffT (C : FVec Ideal S64x3 .f32) (H : FVec Ideal S2048x3 .f32) : FVec Ideal S64x2048x2 .f32 :=
  subf (broadcastInDim S64x2048x2 ![0, 1, 2] bcast_S64x1x2_S64x2048x2_0_1_2 (broadcastInDim S64x1x2 ![0, 2] bcast_S64x2_S64x1x2_0_2 (extractStridedSlice S64x2 ![0, 1] C slices_S64x3_S64x2_0_1))) (broadcastInDim S64x2048x2 ![0, 1, 2] bcast_S1x2048x2_S64x2048x2_0_1_2 (broadcastInDim S1x2048x2 ![1, 2] bcast_S2048x2_S1x2048x2_1_2 (extractStridedSlice S2048x2 ![0, 1] H slices_S2048x3_S2048x2_0_1)))

/-- The difference of a coordinate of an event of the day and of one of the history. -/
theorem diffT_apply (C : FVec Ideal S64x3 .f32) (H : FVec Ideal S2048x3 .f32) (r : Fin 64) (q : Fin 2048) (a : Fin 2) :
    diffT C H (ValueIdx.ix3 r q a) = (C (ValueIdx.ix2 r a.succ) - H (ValueIdx.ix2 q a.succ) : EReal) := by
  pointwise [diffT]
  match a with
  | 0 => rfl
  | 1 => rfl

/-- What the loop carries before trip `k`: the days' numbers, the events by day, the padded events and their mask, the
    parameters, the counter, and the terms of the days before. -/
structure Carried (obs : (⟨2, ![32768, 3]⟩ : Shape).Idx → EReal) (L c b σ : EReal) (T : ℕ → EReal) (k : ℕ) (W : Valuation τ sig (Elt Ideal)) : Prop where
  day : ∀ i, i < 512 → (W (Proc.devRef .tc main_v14_0) : S512.Idx → BitVec 32) (ix 512 i) = BitVec.ofNat 32 (i + 1)
  trs : ∀ (d : Fin 512) (r : Fin 64) (a : Fin 3), (W (Proc.devRef .tc main_v14_1) : S512x64x3.Idx → EReal) (ValueIdx.ix3 d r a) = E.ob obs (64 * d.val + r.val) a
  pad : ∀ (d : Fin 544) (r : Fin 64) (a : Fin 3), 32 ≤ d.val → (W (Proc.devRef .tc main_v14_2) : S544x64x3.Idx → EReal) (ValueIdx.ix3 d r a) = E.ob obs (64 * (d.val - 32) + r.val) a
  msk : ∀ (d : Fin 544) (r : Fin 64), (W (Proc.devRef .tc main_v14_3) : S544x64.Idx → EReal) (ValueIdx.ix2 d r) = (if 32 ≤ d.val then 1 else 0 : EReal)
  hc : W (Proc.devRef .tc main_v14_4) = (fun _ => c : S_.Idx → EReal)
  hb : W (Proc.devRef .tc main_v14_5) = (fun _ => b : S_.Idx → EReal)
  hs : W (Proc.devRef .tc main_v14_6) = (fun _ => σ : S_.Idx → EReal)
  hl : W (Proc.devRef .tc main_v14_7) = (fun _ => L : S_.Idx → EReal)
  ctr : W (Proc.devRef .tc main_v14_8) = (fun _ => BitVec.ofNat 32 k : S_.Idx → BitVec 32)
  trm : ∀ i, i < k → (W (Proc.devRef .tc main_v14_9) : S512.Idx → EReal) (ix 512 i) = T i

section
variable {obs : (⟨2, ![32768, 3]⟩ : Shape).Idx → EReal} {L c b σ : EReal} {T : ℕ → EReal} {k : ℕ} {W : Valuation τ sig (Elt Ideal)}

/-- Trip `k` is on day `k + 1`. -/
theorem v47_eq (h : Carried obs L c b σ T k W) (hk : k < 512) : res_main_while0b_v47 W = (fun _ => BitVec.ofNat 32 (k + 1) : S_.Idx → BitVec 32) := by
  funext j
  unfold res_main_while0b_v47
  refine (cut_day (α := BitVec 32) _ _ k hk (fun i => ?_) _ _ j).trans (h.day k hk)
  match i with
  | 0 =>
    show ((W (Proc.devRef .tc main_v14_8) : S_.Idx → BitVec 32) (Shape.Idx.first h_S_)).toInt = k
    rw [h.ctr]
    exact toInt_ofNat_of_lt (by omega)

/-- One less than it is `k`. -/
theorem v47_pred (h : Carried obs L c b σ T k W) (hk : k < 512) :
    subi (res_main_while0b_v47 W) (constantI S_ 32 1#32) = (constantI S_ 32 (BitVec.ofNat 32 k) : S_.Idx → BitVec 32) := by
  rw [v47_eq h hk]
  funext j
  show BitVec.ofNat 32 (k + 1) - 1#32 = BitVec.ofNat 32 k
  rw [BitVec.ofNat_add]
  exact BitVec.add_sub_cancel _ _

/-- The history of the trip. -/
theorem hist_eq (h : Carried obs L c b σ T k W) (hk : k < 512) (q : Fin 2048) (a : Fin 3) :
    (res_main_while0b_v59 W : S2048x3.Idx → EReal) (ValueIdx.ix2 q a)
      = (W (Proc.devRef .tc main_v14_2) : S544x64x3.Idx → EReal) (ValueIdx.ix3 ⟨k + q.val / 64, by omega⟩ ⟨q.val % 64, by omega⟩ a) := by
  unfold res_main_while0b_v59
  refine cut_hist (α := EReal) _ _ k hk (fun i => ?_) _ _ q a
  have hp : res_main_while0b_v54 W = constantI S_ 32 (BitVec.ofNat 32 k) := v47_pred h hk
  rw [hp]
  match i with
  | 0 => exact toInt_wrap_ofNat k (by omega)
  | 1 => rfl
  | 2 => rfl

/-- The trip's differences. -/
theorem diff_eq (h : Carried obs L c b σ T k W) (hk : k < 512) (r : Fin 64) (q : Fin 2048) (a : Fin 2) :
    (res_main_while0b_v85 W : S64x2048x2.Idx → EReal) (ValueIdx.ix3 r q a)
      = E.ob obs (64 * k + r.val) a.succ
        - (W (Proc.devRef .tc main_v14_2) : S544x64x3.Idx → EReal) (ValueIdx.ix3 ⟨k + q.val / 64, by omega⟩ ⟨q.val % 64, by omega⟩ a.succ) := by
  unfold res_main_while0b_v85
  refine (diffT_apply _ _ r q a).trans ?_
  rw [hist_eq h hk]
  refine congrArg (fun z : EReal => z - _) ?_
  refine (cut_cur (α := EReal) _ _ k hk (fun i => ?_) _ _ r a.succ).trans (h.trs ⟨k, hk⟩ r a.succ)
  have hp : res_main_while0b_v48 W = constantI S_ 32 (BitVec.ofNat 32 k) := v47_pred h hk
  rw [hp]
  match i with
  | 0 => exact toInt_wrap_ofNat k (by omega)
  | 1 => rfl
  | 2 => rfl

/-- The trip's mask. -/
def maskT (W : Valuation τ sig (Elt Ideal)) : FVec Ideal S2048 .f32 :=
  shapeCast S2048 (Host.dynamicSlice S32x64 (W (Proc.devRef .tc main_v14_3)) (fun k => (((![select (cmpi .slt (res_main_while0b_v60 W) (constantI S_ 32 0#32)) (addi (res_main_while0b_v60 W) (constantI S_ 32 544#32)) (res_main_while0b_v60 W), constantI S_ 32 0#32] : Fin 2 → (⟨S_, .i32⟩ : BufTy).Contents (Elt Ideal))) k (Shape.Idx.first h_S_)).toInt) sliceFits_S544x64_S32x64) shapeCasts_S32x64_S2048

/-- The mask is one on the days that there are, zero on those before the first. -/
theorem mask_eq (h : Carried obs L c b σ T k W) (hk : k < 512) (q : Fin 2048) :
    (maskT W : S2048.Idx → EReal) (ValueIdx.ix1 q) = if 32 ≤ k + q.val / 64 then 1 else 0 := by
  unfold maskT
  refine (cut_mask (α := EReal) _ _ k hk (fun i => ?_) _ _ q).trans (h.msk _ _)
  have hp : res_main_while0b_v60 W = constantI S_ 32 (BitVec.ofNat 32 k) := v47_pred h hk
  rw [hp]
  match i with
  | 0 => exact toInt_wrap_ofNat k (by omega)
  | 1 => rfl

/-- The trip's term. -/
def term (W : Valuation τ sig (Elt Ideal)) : FVec Ideal S_ .f32 :=
  termT (spaT (res_main_while0b_v85 W) (W (Proc.devRef .tc main_v14_6)))
    (gT (W (Proc.devRef .tc main_v14_4)) (W (Proc.devRef .tc main_v14_5)) (sitofp .f32 (res_main_while0b_v47 W)) (res_main_while0b_v59 W) (maskT W)) (W (Proc.devRef .tc main_v14_7))

/-- The trip puts its term in its place. -/
theorem step_terms (h : Carried obs L c b σ T k W) (hk : k < 512) (i : ℕ) (hi : i < 512) :
    (step_main_v14_9 W : S512.Idx → EReal) (ix 512 i)
      = if i = k then (term W : S_.Idx → EReal) ValueIdx.ix0 else (W (Proc.devRef .tc main_v14_9) : S512.Idx → EReal) (ix 512 i) := by
  unfold step_main_v14_9
  refine (put_day (α := EReal) _ _ _ k hk (fun i => ?_) _ i hi).trans ?_
  · match i with
    | 0 =>
      show ((W (Proc.devRef .tc main_v14_8) : S_.Idx → BitVec 32) (Shape.Idx.first h_S_)).toInt = k
      rw [h.ctr]
      exact toInt_ofNat_of_lt (by omega)
  · refine congrArg (fun z : EReal => if i = k then z else _) ?_
    exact congrArg (term W : S_.Idx → EReal) (ValueIdx.eq_ix0 _)

end

end Cert.Proof.R

end
-- ==== Proof.R.Day.lean ====
/-
  The reference's loop: the terms it leaves are the days' sums of logarithms of intensities.
-/
module

public import proofs.«01_k».proof.Proof.R.Trip

@[expose] public section

noncomputable section

namespace Cert.Proof.R

open Cert.ReferenceIdeal Cert.ReferenceIdeal.Gen Cert.ReferenceIdeal.Value
open Idealize.ShloMosaic Idealize.ShloMosaic.StableHlo
open Cert.Proof.PI (ix)

variable {obs : (⟨2, ![32768, 3]⟩ : Shape).Idx → EReal} {L c b σ : EReal} {T : ℕ → EReal} {k : ℕ} {W : Valuation τ sig (Elt Ideal)}

/-- What a place in the history gives an event: nothing before the first day. -/
theorem summand_eq (h : Carried obs L c b σ T k W) (hd : E.Days obs) (hk : k < 512) (r : Fin 64) (q : Fin 2048) :
    (spaT (res_main_while0b_v85 W) (W (Proc.devRef .tc main_v14_6)) (ValueIdx.ix2 r q)
      * gT (W (Proc.devRef .tc main_v14_4)) (W (Proc.devRef .tc main_v14_5)) (sitofp .f32 (res_main_while0b_v47 W)) (res_main_while0b_v59 W) (maskT W) (ValueIdx.ix1 q) : EReal)
      = if 32 ≤ k + q.val / 64 then E.spa obs σ (64 * k + r.val) (64 * (k + q.val / 64 - 32) + q.val % 64) * E.decay c b (31 - q.val / 64) else 0 := by
  have ht : (sitofp (F := Ideal) .f32 (res_main_while0b_v47 W) : S_.Idx → EReal) = fun _ => (((k + 1 : ℕ) : ℝ) : EReal) := by
    rw [v47_eq h hk]
    funext j
    show (((BitVec.ofNat 32 (k + 1)).toInt : ℝ) : EReal) = _
    rw [toInt_ofNat_of_lt (by omega)]
    norm_cast
  rw [h.hc, h.hb, h.hs, ht, spaT_apply, gT_apply, mask_eq h hk, hist_eq h hk, diff_eq h hk, diff_eq h hk]
  split_ifs with hq
  · rw [h.pad _ _ _ hq, h.pad _ _ _ hq, h.pad _ _ _ hq, hd _ (by show 64 * (k + q.val / 64 - 32) + q.val % 64 < 32768; omega), mul_one]
    have e1 : (((k + 1 : ℕ) : ℝ) : EReal) - ((((64 * (k + q.val / 64 - 32) + q.val % 64) / 64 + 1 : ℕ) : ℝ) : EReal) = ((1 + ((31 - q.val / 64 : ℕ) : ℝ) : ℝ) : EReal) := by
      rw [← EReal.coe_sub]
      refine congrArg _ ?_
      have e2 : (64 * (k + q.val / 64 - 32) + q.val % 64) / 64 + 1 + (1 + (31 - q.val / 64)) = k + 1 := by omega
      rw [← e2]
      push_cast
      ring
    refine congrArg₂ (fun x y : EReal => x * y) rfl ?_
    unfold E.decay
    rw [← e1]
  · rw [mul_zero, mul_zero]

/-- What an event is excited by, as the reference sums it. -/
theorem excite_eq (h : Carried obs L c b σ T k W) (hd : E.Days obs) (hk : k < 512) (r : Fin 64) :
    (∑ q : Fin 2048, (spaT (res_main_while0b_v85 W) (W (Proc.devRef .tc main_v14_6)) (ValueIdx.ix2 r q)
      * gT (W (Proc.devRef .tc main_v14_4)) (W (Proc.devRef .tc main_v14_5)) (sitofp .f32 (res_main_while0b_v47 W)) (res_main_while0b_v59 W) (maskT W) (ValueIdx.ix1 q) : EReal))
      = E.excite obs c b σ (64 * k + r.val) := by
  rw [Finset.sum_congr rfl fun q _ => summand_eq h hd hk r q]
  rw [← Finset.sum_range fun q => if 32 ≤ k + q / 64 then E.spa obs σ (64 * k + r.val) (64 * (k + q / 64 - 32) + q % 64) * E.decay c b (31 - q / 64) else 0]
  rw [show (2048 : ℕ) = 32 * 64 from rfl, ← E.sum_blocks 32 64, ← Finset.sum_range_reflect]
  unfold E.excite
  have hr : (64 * k + r.val) / 64 = k := by omega
  rw [hr]
  have hsub : Finset.range (min 32 k) ⊆ Finset.range 32 := Finset.range_subset_range.2 (min_le_left _ _)
  rw [← Finset.sum_subset hsub]
  · refine Finset.sum_congr rfl fun i hi => Finset.sum_congr rfl fun j hj => ?_
    have hi' := Finset.mem_range.1 hi
    have hj' := Finset.mem_range.1 hj
    have e1 : (64 * (32 - 1 - i) + j) / 64 = 31 - i := by omega
    have e2 : (64 * (32 - 1 - i) + j) % 64 = j := by omega
    have e3 : k + (31 - i) - 32 = k - 1 - i := by omega
    have e4 : 31 - (31 - i) = i := by omega
    rw [e1, e2, e3, e4, if_pos (by omega)]
  · intro i hi hn
    have hi' := Finset.mem_range.1 hi
    have hn' : ¬ i < min 32 k := fun hx => hn (Finset.mem_range.2 hx)
    refine Finset.sum_eq_zero fun j hj => if_neg ?_
    have hj' := Finset.mem_range.1 hj
    omega

/-- Day `i + 1`'s sum of the logarithms of the intensities. -/
def dayTerm (obs : (⟨2, ![32768, 3]⟩ : Shape).Idx → EReal) (L c b σ : EReal) (i : ℕ) : EReal :=
  ∑ r ∈ Finset.range 64, Ideal.log (E.excite obs c b σ (64 * i + r) + (L + Ideal.ofBits .f32 0x3727C5AC#32))

/-- The trip's term is its day's. -/
theorem term_eq (h : Carried obs L c b σ T k W) (hd : E.Days obs) (hk : k < 512) (j : S_.Idx) : (term W : S_.Idx → EReal) j = dayTerm obs L c b σ k := by
  unfold term
  rw [h.hl]
  refine (termT_apply _ _ L j).trans ?_
  unfold dayTerm
  rw [Finset.sum_range]
  refine Finset.sum_congr rfl fun r _ => ?_
  rw [excite_eq h hd hk r, add_assoc]

/-- A trip carries the claim on. -/
theorem carried_step (h : Carried obs L c b σ (dayTerm obs L c b σ) k W) (hd : E.Days obs) (hk : k < 512) :
    Carried obs L c b σ (dayTerm obs L c b σ) (k + 1) (STEP W) where
  day := by rw [STEP_main_v14_0]; exact h.day
  trs := by rw [STEP_main_v14_1]; exact h.trs
  pad := by rw [STEP_main_v14_2]; exact h.pad
  msk := by rw [STEP_main_v14_3]; exact h.msk
  hc := by rw [STEP_main_v14_4]; exact h.hc
  hb := by rw [STEP_main_v14_5]; exact h.hb
  hs := by rw [STEP_main_v14_6]; exact h.hs
  hl := by rw [STEP_main_v14_7]; exact h.hl
  ctr := by
    rw [STEP_main_v14_8]
    unfold step_main_v14_8
    rw [h.ctr]
    funext j
    show BitVec.ofNat 32 k + 1#32 = BitVec.ofNat 32 (k + 1)
    rw [BitVec.ofNat_add]
  trm := by
    intro i hi
    rw [STEP_main_v14_9, step_terms h hk i (by omega)]
    split_ifs with he
    · rw [he]
      exact term_eq h hd hk _
    · exact h.trm i (by omega)

/-- Every trip does. -/
theorem carried_iter (h : Carried obs L c b σ (dayTerm obs L c b σ) 0 W) (hd : E.Days obs) : ∀ k, k ≤ 512 → Carried obs L c b σ (dayTerm obs L c b σ) k (STEP^[k] W)
  | 0, _ => h
  | k + 1, hk => by
    rw [Function.iterate_succ_apply']
    exact carried_step (carried_iter h hd k (by omega)) hd (by omega)

end Cert.Proof.R

end
-- ==== Proof.R.Entry.lean ====
/-
  The reference's loop, from its entry to its exit.
-/
module

public import proofs.«01_k».proof.Proof.R.Day
public import Idealize.ShloMosaic.Lib.StableHlo.RunRead

@[expose] public section

noncomputable section

namespace Cert.Proof.R

open Cert.ReferenceIdeal Cert.ReferenceIdeal.Gen Cert.ReferenceIdeal.Value
open Idealize.ShloMosaic Idealize.ShloMosaic.StableHlo
open Cert.Proof.PI (ix)

section
variable (V : Valuation τ sig (Elt Ideal))

/-- The events. -/
abbrev rObs : (⟨2, ![32768, 3]⟩ : Shape).Idx → EReal := V (Proc.devRef .tc main_arg0)
/-- The background rate. -/
abbrev rLam : EReal := E.sc (α := EReal) (V (Proc.devRef .tc main_arg1))
/-- The excitation's weight. -/
abbrev rC : EReal := E.sc (α := EReal) (V (Proc.devRef .tc main_arg2))
/-- The excitation's rate of decay. -/
abbrev rB : EReal := E.sc (α := EReal) (V (Proc.devRef .tc main_arg3))
/-- The excitation's width. -/
abbrev rS : EReal := E.sc (α := EReal) (V (Proc.devRef .tc main_arg4))

/-- The events by day, at a place. -/
theorem by_day (x : (⟨2, ![32768, 3]⟩ : Shape).Idx → EReal) (h : S32768x3.ShapeCasts S512x64x3) (d : Fin 512) (r : Fin 64) (a : Fin 3) :
    shapeCast S512x64x3 x h (ValueIdx.ix3 d r a) = E.ob x (64 * d.val + r.val) a := by
  refine shapeCast_apply (s := S32768x3) (t := S512x64x3) x h _ _ ?_
  rw [Shape.rowMajor_val_three, Shape.rowMajor_val_two]
  show (64 * d.val + r.val) % 32768 * 3 + a.val = (d.val * 64 + r.val) * 3 + a.val
  omega

/-- The parameters as scalars. -/
theorem ent_v0 : (after hostOps0 V (Proc.devRef .tc main_v0) : S_.Idx → EReal) = fun _ => rLam V := by
  after_reads_simp
  exact funext fun i => E.sc_eq (α := EReal) _ _ i
/-- The excitation's weight, at the loop's entry. -/
theorem ent_v1 : (after hostOps0 V (Proc.devRef .tc main_v1) : S_.Idx → EReal) = fun _ => rC V := by
  after_reads_simp
  exact funext fun i => E.sc_eq (α := EReal) _ _ i
/-- The rate of decay, at the loop's entry. -/
theorem ent_v2 : (after hostOps0 V (Proc.devRef .tc main_v2) : S_.Idx → EReal) = fun _ => rB V := by
  after_reads_simp
  exact funext fun i => E.sc_eq (α := EReal) _ _ i

/-- What the loop starts from. -/
theorem carried_zero (T : ℕ → EReal) : Carried (rObs V) (rLam V) (rC V) (rB V) (rS V) T 0 (after hostOps0 V) where
  day := by
    intro i hi
    after_reads_simp
    have h0 : ((ix 512 i) 0).val = i := Nat.mod_eq_of_lt hi
    show 1#32 + BitVec.ofNat 32 ((ix 512 i) 0).val = BitVec.ofNat 32 (i + 1)
    rw [h0, BitVec.ofNat_add, BitVec.add_comm]
  trs := by
    intro d r a
    after_reads_simp
    exact by_day (rObs V) _ d r a
  pad := by
    intro d r a hd
    after_reads_simp
    refine (concatenate_pair_apply_right (t := S544x64x3) (s₁ := S32x64x3) (s₂ := S512x64x3) 0 _ _ _ _ rfl rfl (ValueIdx.ix3 ⟨d.val - 32, by omega⟩ r a) (fun b hb => ?_) ?_).trans ?_
    · match b with
      | 0 => exact absurd rfl hb
      | 1 => rfl
      | 2 => rfl
    · show d.val - 32 + 32 = d.val
      omega
    · exact by_day (rObs V) _ _ r a
  msk := by
    intro d r
    after_reads_simp
    split_ifs with hd
    · refine (concatenate_pair_apply_right (t := S544x64) (s₁ := S32x64) (s₂ := S512x64) 0 _ _ _ _ rfl rfl (ValueIdx.ix2 ⟨d.val - 32, by omega⟩ r) (fun b hb => ?_) ?_).trans ?_
      · match b with
        | 0 => exact absurd rfl hb
        | 1 => rfl
      · show d.val - 32 + 32 = d.val
        omega
      · exact Ideal.ofBits_one_f32
    · refine (concatenate_pair_apply_left (t := S544x64) (s₁ := S32x64) (s₂ := S512x64) 0 _ _ _ _ rfl (ValueIdx.ix2 ⟨d.val, by omega⟩ r) (fun b => ?_)).trans ?_
      · match b with
        | 0 => rfl
        | 1 => rfl
      · exact Ideal.ofBits_zero_f32
  hc := by
    after_reads_simp
    exact funext fun i => E.sc_eq (α := EReal) _ _ i
  hb := by
    after_reads_simp
    exact funext fun i => E.sc_eq (α := EReal) _ _ i
  hs := by
    after_reads_simp
    exact funext fun i => E.sc_eq (α := EReal) _ _ i
  hl := by
    after_reads_simp
    exact funext fun i => E.sc_eq (α := EReal) _ _ i
  ctr := by
    after_reads_simp
    rfl
  trm := fun i hi => absurd hi (Nat.not_lt_zero i)

end

section
variable (m : (ℓ : Loc nD τ sig) → Buf (Elt Ideal) ℓ) (c : Dev nD)

/-- What the reference starts from. -/
abbrev M0 : Valuation τ sig (Elt Ideal) := fun b => m (c, b)

/-- The loop is entered with what the operations before it leave. -/
theorem entry_eq : entryContents preI m c = after hostOps0 (M0 m c) := rfl

/-- The terms the loop leaves are the days'. -/
theorem exit_terms (hd : E.Days (rObs (M0 m c))) (i : ℕ) (hi : i < 512) :
    (atExit m c (Proc.devRef .tc main_v14_9) : S512.Idx → EReal) (ix 512 i)
      = dayTerm (rObs (M0 m c)) (rLam (M0 m c)) (rC (M0 m c)) (rB (M0 m c)) (rS (M0 m c)) i := by
  have h1 : atExit m c (Proc.devRef .tc main_v14_9) = (STEP^[512] (entryContents preI m c)) (Proc.devRef .tc main_v14_9) :=
    (cond_keeps _ main_v14_9 (by decide)).trans (atK_agree m c 512 main_v14_9 (by decide))
  rw [h1, entry_eq]
  exact (carried_iter (carried_zero (M0 m c) _) hd 512 le_rfl).trm i hi

end

end Cert.Proof.R

end
-- ==== Proof.R.Table.lean ====
/-
  The reference's table of the decay's running sums, and the words it is read at.
-/
module

public import proofs.«01_k».proof.Proof.R.Kept
public import proofs.«01_k».proof.Proof.Spec
public import Idealize.ShloMosaic.Lib.DynamicIndex
public import Idealize.ShloMosaic.Lib.StableHlo.Predicate

@[expose] public section

noncomputable section

namespace Cert.Proof.R

open Cert.ReferenceIdeal Cert.ReferenceIdeal.Gen Cert.ReferenceIdeal.Value
open Idealize.ShloMosaic Idealize.ShloMosaic.StableHlo
open Cert.Proof.PI (ix)

/-- A left fold of additions is the start and the sum. -/
theorem foldl_add {β : Type} (g : β → EReal) (l : List β) (v : EReal) : l.foldl (fun r n => r + g n) v = v + (l.map g).sum := by
  induction l generalizing v with
  | nil => simp
  | cons a l ih => rw [List.foldl_cons, ih, List.map_cons, List.sum_cons, add_assoc]

/-- A window of thirty-two that ends at place `j` holds the places up to `j`. -/
theorem window_sum (f : ℕ → EReal) (j : ℕ) (hj : j < 32) :
    ∑ w ∈ Finset.range 32, (if 31 ≤ j + w then f (j + w - 31) else 0) = ∑ i ∈ Finset.range (j + 1), f i := by
  rw [← Finset.sum_range_reflect, ← Finset.sum_range_reflect f (j + 1)]
  rw [← Finset.sum_subset (Finset.range_subset_range.2 (show j + 1 ≤ 32 by omega))]
  · refine Finset.sum_congr rfl fun i hi => ?_
    have hi' := Finset.mem_range.1 hi
    rw [if_pos (by omega)]
    exact congrArg f (by omega)
  · intro i hi hn
    have hi' := Finset.mem_range.1 hi
    have hn' : ¬ i < j + 1 := fun hx => hn (Finset.mem_range.2 hx)
    exact if_neg (by omega)

/-- The running sums. -/
theorem running (x : FVec Ideal S32 .f32) (init : FVec Ideal S_ .f32) (h0 : ∀ i, (init i : EReal) = 0) (h : S32.ReduceWindows ![32] ![1] ![31] ![0] S32)
    (hu : 0 < S_.numel) (j : ℕ) (hj : j < 32) :
    (Host.reduceWindowAdd ![32] ![1] ![31] ![0] x init h hu (ix 32 j) : EReal) = ∑ i ∈ Finset.range (j + 1), (x (ix 32 i) : EReal) := by
  have hv : ((ix 32 j) 0).val = j := Nat.mod_eq_of_lt hj
  refine Eq.trans ?_ (window_sum (fun i => (x (ix 32 i) : EReal)) j hj)
  show Host.reduceWindow (fun a b : EReal => a + b) ![32] ![1] ![31] ![0] x (fun _ : (⟨0, ![]⟩ : Shape).Idx => init (Shape.Idx.first hu)) h Nat.one_pos (ix 32 j) = _
  unfold Host.reduceWindow
  refine (foldl_add _ _ _).trans ?_
  rw [h0, zero_add, ← Fin.sum_univ_def]
  refine (Fintype.sum_equiv S32.rowMajor (fun w : S32.Idx => if 31 ≤ j + (w 0).val then (x (ix 32 (j + (w 0).val - 31)) : EReal) else 0) _ fun w => ?_).symm.trans ?_
  · have hw : (w 0).val < 32 := (w 0).isLt
    have he : (S32.rowMajor.symm (S32.rowMajor w) 0).val = (w 0).val := congrArg (fun i : S32.Idx => (i 0).val) (Equiv.symm_apply_apply _ _)
    split_ifs with h1 h2 h2
    · refine congrArg x (funext fun a => Fin.ext ?_)
      match a with
      | 0 =>
        show (j + (w 0).val - 31) % 32 = ((ix 32 j) 0).val * 1 + (S32.rowMajor.symm (S32.rowMajor w) 0).val - 31
        rw [hv, he]
        omega
    · refine absurd (fun a => ?_) h2
      match a with
      | 0 =>
        show 31 ≤ ((ix 32 j) 0).val * 1 + (S32.rowMajor.symm (S32.rowMajor w) 0).val ∧ ((ix 32 j) 0).val * 1 + (S32.rowMajor.symm (S32.rowMajor w) 0).val - 31 < 32
        rw [hv, he]
        omega
    · have h3 := (h2 0).1
      change 31 ≤ ((ix 32 j) 0).val * 1 + (S32.rowMajor.symm (S32.rowMajor w) 0).val at h3
      rw [hv, he] at h3
      omega
    · rfl
  · refine (E.sum_ix 32 _).trans (Finset.sum_congr rfl fun w hw => ?_)
    have hw' : ((ix 32 w) 0).val = w := Nat.mod_eq_of_lt (Finset.mem_range.1 hw)
    rw [hw']

/-- The table: the sum of the first `n` decays. -/
theorem table (x : FVec Ideal S32 .f32) (z : FVec Ideal S1 .f32) (hz : ∀ i, (z i : EReal) = 0) (init : FVec Ideal S_ .f32) (h0 : ∀ i, (init i : EReal) = 0)
    (h : S32.ReduceWindows ![32] ![1] ![31] ![0] S32) (hu : 0 < S_.numel) (hc : Shape.Concatenates [S1, S32] S33 0) (n : ℕ) (hn : n ≤ 32) :
    (concatenate S33 0 [⟨S1, z⟩, ⟨S32, Host.reduceWindowAdd ![32] ![1] ![31] ![0] x init h hu⟩] hc (ix 33 n) : EReal) = ∑ i ∈ Finset.range n, (x (ix 32 i) : EReal) := by
  have hv : ((ix 33 n) 0).val = n := Nat.mod_eq_of_lt (by omega)
  rcases n with _ | n
  · rw [Finset.sum_range_zero]
    refine (concatenate_pair_apply_left (t := S33) (s₁ := S1) (s₂ := S32) 0 _ _ _ _ rfl (ix 1 0) (fun b => ?_)).trans (hz _)
    match b with
    | 0 => rfl
  · refine (concatenate_pair_apply_right (t := S33) (s₁ := S1) (s₂ := S32) 0 _ _ _ _ rfl rfl (ix 32 n) (fun b hb => absurd (Subsingleton.elim _ _) hb) ?_).trans
      (running x init h0 h hu n (by omega))
    show n % 32 + 1 = (n + 1) % 33
    omega

/-- A day's number as a word. -/
theorem day_word (n : ℕ) (hn : n ≤ 512) : Ideal.fptosi 32 ((n : ℝ) : EReal) = BitVec.ofNat 32 n := by
  unfold Ideal.fptosi
  rw [Ideal.toIntClamped_coe, if_pos (Nat.cast_nonneg n), Int.floor_natCast, min_eq_right (by norm_num; omega), max_eq_right (by norm_num)]
  exact BitVec.ofInt_natCast 32 n

/-- The days left, as the reference computes them on words. -/
theorem left_word : ∀ d : Fin 512, IntOp.minsi 32#32 (IntOp.maxsi 0#32 (512#32 - BitVec.ofNat 32 (d.val + 1))) = BitVec.ofNat 32 (min 32 (511 - d.val)) := by
  decide +kernel

end Cert.Proof.R

end
-- ==== Proof.R.Value.lean ====
/-
  The reference's three results.
-/
module

public import proofs.«01_k».proof.Proof.R.Entry
public import proofs.«01_k».proof.Proof.R.Table

@[expose] public section

noncomputable section

namespace Cert.Proof.R

open Cert.ReferenceIdeal Cert.ReferenceIdeal.Gen Cert.ReferenceIdeal.Value
open Idealize.ShloMosaic Idealize.ShloMosaic.StableHlo
open Cert.Proof.PI (ix)

/-- The decays. -/
def decT (c b : FVec Ideal S_ .f32) : FVec Ideal S32 .f32 :=
  mulf (broadcastInDim S32 ![] bcast_S_S32 (mulf c b)) (Host.exp (mulf (broadcastInDim S32 ![] bcast_S_S32 (Host.negf b))
    (addf (broadcastInDim S32 ![] bcast_S_S32 (constant S_ .f32 0x3F800000#32)) (sitofp .f32 (iotaInDim S32 32 0)))))

/-- The decay of a day. -/
theorem decT_apply (c b : EReal) (i : ℕ) (hi : i < 32) : (decT (fun _ => c) (fun _ => b) (ix 32 i) : EReal) = E.decay c b i := by
  have hv : ((ix 32 i) 0).val = i := Nat.mod_eq_of_lt hi
  have hf : (FloatOps.sitofp (F := Ideal) .f32 (BitVec.ofNat 32 ((ix 32 i) 0).val) : EReal) = ((i : ℝ) : EReal) := by
    rw [hv]
    show (((BitVec.ofNat 32 i).toInt : ℝ) : EReal) = _
    rw [toInt_ofNat_of_lt (by omega)]
    norm_cast
  show c * b * Ideal.exp (-b * (Ideal.ofBits .f32 0x3F800000#32 + FloatOps.sitofp (F := Ideal) .f32 (BitVec.ofNat 32 ((ix 32 i) 0).val))) = _
  rw [hf, Ideal.ofBits_one_f32, E.decay, EReal.coe_add, EReal.coe_one]

/-- The table of their running sums. -/
def tableT (c b : FVec Ideal S_ .f32) : FVec Ideal S33 .f32 :=
  concatenate S33 0 [⟨S1, broadcastInDim S1 ![] bcast_S_S1 (constant (F := Ideal) S_ .f32 0x00000000#32)⟩,
    ⟨S32, Host.reduceWindowAdd ![32] ![1] ![31] ![0] (decT c b) (broadcastInDim S_ ![] bcast_S_S_ (constant S_ .f32 0x00000000#32)) reduceWindows_S32_S32_w32s1p31_0 h_S_⟩] concatenates_S1_S32_S33_d0

/-- The table's entry `n` is the sum of the first `n` decays. -/
theorem tableT_apply (c b : EReal) (n : ℕ) (hn : n ≤ 32) : (tableT (fun _ => c) (fun _ => b) (ix 33 n) : EReal) = ∑ i ∈ Finset.range n, E.decay c b i := by
  unfold tableT
  refine (table _ _ (fun _ => Ideal.ofBits_zero_f32) _ (fun _ => Ideal.ofBits_zero_f32) _ _ _ n hn).trans ?_
  exact Finset.sum_congr rfl fun i hi => decT_apply c b i (lt_of_lt_of_le (Finset.mem_range.1 hi) hn)

/-- The days left, as words. -/
def clipT (x : FVec Ideal S32768 .f32) : IVec S32768 32 :=
  minsi (broadcastInDim S32768 ![] bcast_S_S32768 (constantI S_ 32 32#32)) (maxsi (broadcastInDim S32768 ![] bcast_S_S32768 (constantI S_ 32 0#32))
    (subi (broadcastInDim S32768 ![] bcast_S_S32768 (constantI S_ 32 512#32)) (fptosi 32 x)))

/-- An event of day `d + 1` has `511 - d` days left, at most thirty-two. -/
theorem clipT_apply (x : FVec Ideal S32768 .f32) (j : S32768.Idx) (d : ℕ) (hd : d < 512) (hx : (x j : EReal) = (((d + 1 : ℕ) : ℝ) : EReal)) :
    clipT x j = BitVec.ofNat 32 (min 32 (511 - d)) := by
  show IntOp.minsi 32#32 (IntOp.maxsi 0#32 (512#32 - Ideal.fptosi 32 (x j))) = _
  rw [hx, day_word _ (by omega)]
  exact left_word ⟨d, hd⟩

/-- The words as the table's positions. -/
def wrapT (w : IVec S32768 32) : IVec S32768 32 :=
  select (cmpi .slt w (broadcastInDim S32768 ![] bcast_S_S32768 (constantI S_ 32 0#32))) (addi w (broadcastInDim S32768 ![] bcast_S_S32768 (constantI S_ 32 33#32))) w

/-- The table at an event's position. -/
def takeT (t : FVec Ideal S33 .f32) (w : IVec S32768 32) : FVec Ideal S32768 .f32 :=
  Host.gather gather_S33_S32768x1_S32768_n_0_n_n_0_1_1 t (broadcastInDim S32768x1 ![0] bcast_S32768_S32768x1_0 (wrapT w))

/-- A position within the table is read there. -/
theorem takeT_apply (t : FVec Ideal S33 .f32) (w : IVec S32768 32) (e n : ℕ) (he : e < 32768) (hn : n ≤ 32) (hw : w (ix 32768 e) = BitVec.ofNat 32 n) :
    takeT t w (ix 32768 e) = t (ix 33 n) := by
  have hi : ix 32768 e = Shape.Idx.ofFin (⟨e, he⟩ : Fin 32768) := by
    funext a
    match a with
    | 0 => exact Fin.ext (Nat.mod_eq_of_lt he)
  have hx : broadcastInDim S32768x1 ![0] bcast_S32768_S32768x1_0 (wrapT w) (Predicate.ixP (⟨e, he⟩ : Fin 32768)) = BitVec.ofNat 32 n := by
    refine (broadcastInDim_apply (s := S32768) (t := S32768x1) _ _ _ _ (ix 32768 e) (fun a => ?_)).trans ?_
    · match a with
      | 0 => exact Nat.mod_eq_of_lt he
    · refine (select_slt_zero_of_nonneg w _ _ _ ?_).trans hw
      rw [hw, toInt_ofNat_of_lt (by omega)]
      omega
  unfold takeT
  rw [hi]
  refine (Predicate.gather_take _ rfl rfl rfl rfl t _ _ (by decide)).trans ?_
  refine congrArg t (funext fun a => Fin.ext ?_)
  match a with
  | 0 =>
    show min (broadcastInDim S32768x1 ![0] bcast_S32768_S32768x1_0 (wrapT w) (Predicate.ixP (⟨e, he⟩ : Fin 32768))).toInt.toNat (33 - 1) = n % 33
    rw [hx, toInt_ofNat_of_lt (by omega)]
    omega

/-- The second sum. -/
def secT (L c b : FVec Ideal S_ .f32) (x : FVec Ideal S32768 .f32) : FVec Ideal S_ .f32 :=
  addf (mulf (mulf L (constant S_ .f32 0x3F800000#32)) (constant S_ .f32 0x44000000#32))
    (Host.reduceAdd (takeT (tableT c b) (clipT x)) (constant S_ .f32 0x00000000#32) reducesTo_S32768_S_d0 h_S_)

/-- It is the compensator. -/
theorem secT_apply (L c b : EReal) (x : FVec Ideal S32768 .f32) (hx : ∀ e, e < 32768 → (x (ix 32768 e) : EReal) = (((e / 64 + 1 : ℕ) : ℝ) : EReal)) (j : S_.Idx) :
    (secT (fun _ => L) (fun _ => c) (fun _ => b) x j : EReal) = E.lams2 L c b := by
  have hr : (Host.reduceAdd (takeT (tableT (fun _ => c) (fun _ => b)) (clipT x)) (constant S_ .f32 0x00000000#32) reducesTo_S32768_S_d0 h_S_ j : EReal)
      = ∑ e ∈ Finset.range 32768, ∑ i ∈ Finset.range (min 32 (511 - e / 64)), E.decay c b i := by
    refine (Ideal.hostReduceAdd_total reducesTo_S32768_S_d0 (fun b => b.elim0) _ _ j).trans ?_
    refine (congrArg₂ (fun x y : EReal => x + y) Ideal.ofBits_zero_f32 (E.sum_ix 32768 _)).trans ?_
    rw [zero_add]
    refine Finset.sum_congr rfl fun e he => ?_
    have he' := Finset.mem_range.1 he
    exact (takeT_apply _ _ e _ he' (min_le_left _ _) (clipT_apply x _ (e / 64) (by omega) (hx e he'))).trans (tableT_apply c b _ (min_le_left _ _))
  show L * Ideal.ofBits .f32 0x3F800000#32 * Ideal.ofBits .f32 0x44000000#32 + _ = _
  unfold E.lams2
  rw [Ideal.ofBits_one_f32, mul_one, E.bits_512]
  exact congrArg (fun z : EReal => L * ((512 : ℝ) : EReal) + z) hr

/-- A vector's sum. -/
def sumT (x : FVec Ideal S512 .f32) : FVec Ideal S_ .f32 := Host.reduceAdd x (constant S_ .f32 0x00000000#32) reducesTo_S512_S_d0 h_S_

/-- It is the sum of its elements. -/
theorem sumT_apply (x : FVec Ideal S512 .f32) (j : S_.Idx) : (sumT x j : EReal) = ∑ i ∈ Finset.range 512, (x (ix 512 i) : EReal) := by
  refine (Ideal.hostReduceAdd_total reducesTo_S512_S_d0 (fun b => b.elim0) _ _ j).trans ?_
  refine (congrArg₂ (fun x y : EReal => x + y) Ideal.ofBits_zero_f32 (E.sum_ix 512 _)).trans ?_
  rw [zero_add]

/-- The days' terms sum to the events' logarithms. -/
theorem sumT_days (obs : (⟨2, ![32768, 3]⟩ : Shape).Idx → EReal) (L c b σ : EReal) (x : FVec Ideal S512 .f32) (h : ∀ i, i < 512 → (x (ix 512 i) : EReal) = dayTerm obs L c b σ i) :
    sumT x = fun _ => E.lams1 obs L c b σ := by
  funext j
  rw [sumT_apply, Finset.sum_congr rfl fun i hi => h i (Finset.mem_range.1 hi)]
  unfold dayTerm E.lams1
  have hb := E.sum_blocks 512 64 fun e => Ideal.log (E.excite obs c b σ e + (L + Ideal.ofBits .f32 0x3727C5AC#32))
  norm_num only at hb
  exact hb

section
variable (V : Valuation τ sig (Elt Ideal))

/-- The operations after the loop, stretch by stretch. -/
theorem post_split : after (postOps (F := Ideal)) V = after hostOps0_5 (after hostOps0_4 (after hostOps0_3 (after hostOps0_2 (after hostOps0_1 V)))) := rfl

/-- The first sum, of the loop's terms. -/
theorem read15 : (after hostOps0_1 V (Proc.devRef .tc main_v15) : S_.Idx → EReal) = sumT (V (Proc.devRef .tc main_v14_9)) := by
  after_reads_simp
  rfl

/-- The decays, and the table's first entry. -/
theorem read1 : (after hostOps0_1 V (Proc.devRef .tc main_v25) : S32.Idx → EReal) = decT (V (Proc.devRef .tc main_v1)) (V (Proc.devRef .tc main_v2))
    ∧ (after hostOps0_1 V (Proc.devRef .tc main_v26) : S1.Idx → EReal) = broadcastInDim S1 ![] bcast_S_S1 (constant (F := Ideal) S_ .f32 0x00000000#32) := by
  constructor
  · after_reads_simp
    rfl
  · after_reads_simp
/-- The running sums of the decays. -/
theorem read2 : (after hostOps0_2 V (Proc.devRef .tc main_v27) : S32.Idx → EReal)
    = Host.reduceWindowAdd (F := Ideal) ![32] ![1] ![31] ![0] (V (Proc.devRef .tc main_v25)) (broadcastInDim S_ ![] bcast_S_S_ (constant S_ .f32 0x00000000#32)) reduceWindows_S32_S32_w32s1p31_0 h_S_ := by
  after_reads_simp
  rfl
/-- The table, the days left before they are clipped, and the bounds they are clipped to. -/
theorem read3 : (after hostOps0_3 V (Proc.devRef .tc main_v28) : S33.Idx → EReal)
      = concatenate S33 0 [⟨S1, (V (Proc.devRef .tc main_v26) : S1.Idx → EReal)⟩, ⟨S32, (V (Proc.devRef .tc main_v27) : S32.Idx → EReal)⟩] concatenates_S1_S32_S33_d0
    ∧ (after hostOps0_3 V (Proc.devRef .tc main_v33) : S32768.Idx → BitVec 32)
      = subi (broadcastInDim S32768 ![] bcast_S_S32768 (constantI S_ 32 512#32)) (fptosi (F := Ideal) (φ := .f32) 32 (shapeCast S32768 (extractStridedSlice S32768x1 ![0, 0] (rObs V) slices_S32768x3_S32768x1_0_0) shapeCasts_S32768x1_S32768))
    ∧ (after hostOps0_3 V (Proc.devRef .tc main_c_8) : S_.Idx → BitVec 32) = constantI S_ 32 0#32
    ∧ (after hostOps0_3 V (Proc.devRef .tc main_c_9) : S_.Idx → BitVec 32) = constantI S_ 32 32#32 := by
  refine ⟨?_, ?_, ?_, ?_⟩
  · after_reads_simp
    rfl
  · after_reads_simp
    rfl
  · after_reads_simp
  · after_reads_simp
/-- The days left, clipped. -/
theorem read4 : (after hostOps0_4 V (Proc.devRef .tc main_v34) : S32768.Idx → BitVec 32)
    = minsi (broadcastInDim S32768 ![] bcast_S_S32768 (V (Proc.devRef .tc main_c_9))) (maxsi (broadcastInDim S32768 ![] bcast_S_S32768 (V (Proc.devRef .tc main_c_8))) (V (Proc.devRef .tc main_v33))) := by
  after_reads_simp
  rfl
/-- The second sum, of the table and the days left. -/
theorem read5 : (after hostOps0_5 V (Proc.devRef .tc main_v45) : S_.Idx → EReal)
    = addf (F := Ideal) (φ := .f32) (mulf (mulf (V (Proc.devRef .tc main_v0)) (constant S_ .f32 0x3F800000#32)) (constant S_ .f32 0x44000000#32))
    (Host.reduceAdd (takeT (V (Proc.devRef .tc main_v28)) (V (Proc.devRef .tc main_v34))) (constant S_ .f32 0x00000000#32) reducesTo_S32768_S_d0 h_S_) := by
  after_reads_simp
  rfl

/-- The result is the difference of the two sums. -/
theorem read46 : (after hostOps0_5 V (Proc.devRef .tc main_v46) : S_.Idx → EReal)
    = subf (F := Ideal) (φ := .f32) (after hostOps0_5 V (Proc.devRef .tc main_v15)) (after hostOps0_5 V (Proc.devRef .tc main_v45)) := by
  after_reads_simp

/-- What the second stretch keeps. -/
theorem keep2 : after hostOps0_2 V (Proc.devRef .tc main_v15) = V (Proc.devRef .tc main_v15) ∧ after hostOps0_2 V (Proc.devRef .tc main_v26) = V (Proc.devRef .tc main_v26)
    ∧ after hostOps0_2 V (Proc.devRef .tc main_v0) = V (Proc.devRef .tc main_v0) ∧ after hostOps0_2 V (Proc.devRef .tc main_arg0) = V (Proc.devRef .tc main_arg0) := by
  refine ⟨?_, ?_, ?_, ?_⟩ <;> after_reads_simp

/-- What the third stretch keeps. -/
theorem keep3 : after hostOps0_3 V (Proc.devRef .tc main_v15) = V (Proc.devRef .tc main_v15) ∧ after hostOps0_3 V (Proc.devRef .tc main_v0) = V (Proc.devRef .tc main_v0) := by
  refine ⟨?_, ?_⟩ <;> after_reads_simp

/-- What the fourth stretch keeps. -/
theorem keep4 : after hostOps0_4 V (Proc.devRef .tc main_v15) = V (Proc.devRef .tc main_v15) ∧ after hostOps0_4 V (Proc.devRef .tc main_v0) = V (Proc.devRef .tc main_v0)
    ∧ after hostOps0_4 V (Proc.devRef .tc main_v28) = V (Proc.devRef .tc main_v28) := by
  refine ⟨?_, ?_, ?_⟩ <;> after_reads_simp

/-- What the fifth stretch keeps. -/
theorem keep5 : after hostOps0_5 V (Proc.devRef .tc main_v15) = V (Proc.devRef .tc main_v15) := by after_reads_simp

/-- What the first stretch keeps. -/
theorem keep1 : after hostOps0_1 V (Proc.devRef .tc main_v0) = V (Proc.devRef .tc main_v0) ∧ after hostOps0_1 V (Proc.devRef .tc main_arg0) = V (Proc.devRef .tc main_arg0) := by
  refine ⟨?_, ?_⟩ <;> after_reads_simp

/-- The first sum, after the last stretch. -/
theorem post_15 : (after postOps V (Proc.devRef .tc main_v15) : S_.Idx → EReal) = sumT (V (Proc.devRef .tc main_v14_9)) := by
  rw [post_split, ← read15, keep5, (keep4 _).1, (keep3 _).1, (keep2 _).1]

/-- The second sum, after the last stretch. -/
theorem post_45 : (after postOps V (Proc.devRef .tc main_v45) : S_.Idx → EReal)
    = secT (V (Proc.devRef .tc main_v0)) (V (Proc.devRef .tc main_v1)) (V (Proc.devRef .tc main_v2))
      (shapeCast S32768 (extractStridedSlice S32768x1 ![0, 0] (rObs V) slices_S32768x3_S32768x1_0_0) shapeCasts_S32768x1_S32768) := by
  have h0 : after hostOps0_4 (after hostOps0_3 (after hostOps0_2 (after hostOps0_1 V))) (Proc.devRef .tc main_v0) = V (Proc.devRef .tc main_v0) := by
    rw [(keep4 _).2.1, (keep3 _).2, (keep2 _).2.2.1, (keep1 _).1]
  have h28 : (after hostOps0_4 (after hostOps0_3 (after hostOps0_2 (after hostOps0_1 V))) (Proc.devRef .tc main_v28) : S33.Idx → EReal)
      = tableT (V (Proc.devRef .tc main_v1)) (V (Proc.devRef .tc main_v2)) := by
    rw [(keep4 _).2.2, (read3 _).1, (keep2 _).2.1, (read1 _).2, read2, (read1 _).1]
    rfl
  have h34 : (after hostOps0_4 (after hostOps0_3 (after hostOps0_2 (after hostOps0_1 V))) (Proc.devRef .tc main_v34) : S32768.Idx → BitVec 32)
      = clipT (shapeCast S32768 (extractStridedSlice S32768x1 ![0, 0] (rObs V) slices_S32768x3_S32768x1_0_0) shapeCasts_S32768x1_S32768) := by
    rw [read4, (read3 _).2.1, (read3 _).2.2.1, (read3 _).2.2.2]
    unfold rObs
    rw [(keep2 _).2.2.2, (keep1 _).2]
    rfl
  rw [post_split, read5, h0, h28, h34]
  rfl

/-- The difference, after the last stretch. -/
theorem post_46 : (after postOps V (Proc.devRef .tc main_v46) : S_.Idx → EReal)
    = subf (F := Ideal) (φ := .f32) (after postOps V (Proc.devRef .tc main_v15)) (after postOps V (Proc.devRef .tc main_v45)) := by
  rw [post_split]
  exact read46 _

/-- The second result. -/
theorem post_45_eq (L c b : EReal) (h0 : (V (Proc.devRef .tc main_v0) : S_.Idx → EReal) = fun _ => L) (h1 : (V (Proc.devRef .tc main_v1) : S_.Idx → EReal) = fun _ => c)
    (h2 : (V (Proc.devRef .tc main_v2) : S_.Idx → EReal) = fun _ => b) (hd : E.Days (rObs V)) :
    (after postOps V (Proc.devRef .tc main_v45) : S_.Idx → EReal) = fun _ => E.lams2 L c b := by
  rw [post_45, h0, h1, h2]
  funext j
  refine secT_apply L c b _ (fun e he => ?_) j
  have hv : ((ix 32768 e) 0).val = e := Nat.mod_eq_of_lt he
  refine (E.col_eq (rObs V) 0 _ _ (ix 32768 e)).trans ?_
  rw [hv]
  exact hd e he

end

section
variable (m : (ℓ : Loc nD τ sig) → Buf (Elt Ideal) ℓ) (c : Dev nD)

/-- A reference that no trip writes, when the loop is left. -/
theorem exit_ent (b : Ref sig .tc) (hc : b ∉ condOps_W) (h0 : b ∉ while0Ops0_W) (h1 : b ∉ while0Ops0_1_W) (h2 : b ∉ while0Ops0_2_W) (h3 : b ∉ while0Ops0_3_W) :
    atExit m c (Proc.devRef .tc b) = after hostOps0 (M0 m c) (Proc.devRef .tc b) := exit_kept m c b hc h0 h1 h2 h3

/-- The events, when the loop is left. -/
theorem exit_obs : rObs (atExit m c) = rObs (M0 m c) := by
  refine (exit_ent m c main_arg0 (by decide) (by decide) (by decide) (by decide) (by decide)).trans ?_
  exact after_of_writes_sub hostOps0 _ hostOps0_writes (by decide)

/-- The reference's first sum is the sum of the logarithms of the intensities. -/
theorem ref_15 (hd : E.Days (rObs (M0 m c))) : (after postOps (atExit m c) (Proc.devRef .tc main_v15) : S_.Idx → EReal)
    = fun _ => E.lams1 (rObs (M0 m c)) (rLam (M0 m c)) (rC (M0 m c)) (rB (M0 m c)) (rS (M0 m c)) :=
  (post_15 _).trans (sumT_days _ _ _ _ _ _ (exit_terms m c hd))

/-- The reference's second sum is the compensator. -/
theorem ref_45 (hd : E.Days (rObs (M0 m c))) : (after postOps (atExit m c) (Proc.devRef .tc main_v45) : S_.Idx → EReal)
    = fun _ => E.lams2 (rLam (M0 m c)) (rC (M0 m c)) (rB (M0 m c)) := by
  refine post_45_eq _ _ _ _ ((exit_ent m c main_v0 (by decide) (by decide) (by decide) (by decide) (by decide)).trans (ent_v0 _))
    ((exit_ent m c main_v1 (by decide) (by decide) (by decide) (by decide) (by decide)).trans (ent_v1 _))
    ((exit_ent m c main_v2 (by decide) (by decide) (by decide) (by decide) (by decide)).trans (ent_v2 _)) ?_
  rw [exit_obs]
  exact hd

/-- The reference's result is their difference. -/
theorem ref_46 (hd : E.Days (rObs (M0 m c))) : (after postOps (atExit m c) (Proc.devRef .tc main_v46) : S_.Idx → EReal)
    = fun _ => E.lams1 (rObs (M0 m c)) (rLam (M0 m c)) (rC (M0 m c)) (rB (M0 m c)) (rS (M0 m c)) - E.lams2 (rLam (M0 m c)) (rC (M0 m c)) (rB (M0 m c)) := by
  rw [post_46, ref_15 m c hd, ref_45 m c hd]
  rfl

end

end Cert.Proof.R

end
-- ==== Proof.Algebraic.lean ====
/-
  The kernel's three results are the reference's, over the extended reals.
-/
module

public import proofs.«01_k».proof.Proof.Frames
public import proofs.«01_k».proof.Proof.KerValue
public import proofs.«01_k».proof.Proof.R.Value

@[expose] public section

noncomputable section

namespace Cert.Proof

open Idealize.ShloMosaic Idealize.SL.Sem

/-- Two bits whose conjunction is one are one. -/
theorem both_one : ∀ a b : BitVec 1, IntOp.andi a b = 1#1 → a = 1#1 ∧ b = 1#1 := by decide

/-- A truth value's bit is one only of the true. -/
theorem true_of_one (p : Bool) (h : BitVec.ofBool p = 1#1) : p = true := by
  cases p
  · exact absurd h (by decide)
  · rfl

/-- The precondition, in words: the events are in days of sixty-four, the rate of decay is not minus infinity, the width not zero. -/
theorem pre_tame (x0 : (⟨2, ![32768, 3]⟩ : Shape).Idx → EReal) (x1 x2 x3 x4 : (⟨1, ![1]⟩ : Shape).Idx → EReal)
    (h : Cert.Pre_inputs_tame.fn (F := Ideal) x0 x1 x2 x3 x4 = fun _ => 1#1) : E.Days x0 ∧ E.sc x3 ≠ ⊥ ∧ E.sc x4 ≠ 0 := by
  have hx : ∀ i, _ := fun i => congrFun h i
  unfold Cert.Pre_inputs_tame.fn at hx
  refine ⟨fun e he => ?_, ?_, ?_⟩
  · have h0 := of_decide_eq_true (true_of_one _ (both_one _ _ (both_one _ _ (hx (ValueIdx.ix2 ⟨e / 64, by omega⟩ ⟨e % 64, by omega⟩))).1).1)
    have hv : ((PI.ix 32768 e) 0).val = e := Nat.mod_eq_of_lt he
    have hl : ∀ (h1 : _) (h2 : _) (h3 : _), shapeCast (⟨2, ![512, 64]⟩ : Shape) (shapeCast (⟨1, ![32768]⟩ : Shape) (extractStridedSlice (⟨2, ![32768, 1]⟩ : Shape) ![0, 0] x0 h1) h2) h3
        (ValueIdx.ix2 ⟨e / 64, by omega⟩ ⟨e % 64, by omega⟩) = E.ob x0 e 0 := by
      intro h1 h2 h3
      refine (shapeCast_apply (s := ⟨1, ![32768]⟩) (t := ⟨2, ![512, 64]⟩) _ h3 _ (PI.ix 32768 e) ?_).trans ((E.col_eq x0 0 h1 h2 _).trans (by rw [hv]))
      rw [Shape.rowMajor_val_two, Shape.rowMajor_val_one, hv]
      show e = e / 64 * 64 + e % 64
      omega
    refine (hl _ _ _).symm.trans (h0.trans ?_)
    show (((BitVec.ofNat 32 (e / 64) + 1#32).toInt : ℝ) : EReal) = _
    have hw : BitVec.ofNat 32 (e / 64) + 1#32 = BitVec.ofNat 32 (e / 64 + 1) := by
      rw [BitVec.ofNat_add]
    rw [hw, toInt_ofNat_of_lt (by omega)]
    norm_cast
  · have h0 := of_decide_eq_true (true_of_one _ (both_one _ _ (both_one _ _ (hx (ValueIdx.ix2 0 0))).1).2)
    intro hb
    have h1 : Ideal.ofBits .f32 0xFF800000#32 < E.sc x3 := lt_of_lt_of_eq h0 (E.sc_eq (α := EReal) x3 _ _)
    rw [hb] at h1
    exact not_lt_bot h1
  · have h0 := of_decide_eq_true (true_of_one _ (both_one _ _ (hx (ValueIdx.ix2 0 0))).2)
    intro hb
    refine h0 ((E.sc_eq (α := EReal) x4 _ _).trans (hb.trans ?_))
    exact Ideal.ofBits_zero_f32.symm

/-- The kernel's three results are the reference's. -/
theorem algebraic : Cert.algebraic_KernelIdeal_ReferenceIdeal := by
  intro m g m' g' hpre hargs
  have ht : ∀ c, _ := fun c => pre_tame _ _ _ _ _ (hpre c)
  refine ⟨fun c => PI.V5 m c (PI.rf Cert.KernelIdeal.main_v52), fun c => PI.V5 m c (PI.rf Cert.KernelIdeal.main_v53), fun c => PI.V5 m c (PI.rf Cert.KernelIdeal.main_v54), ?_, ?_⟩
  · refine (θ_run Cert.KernelIdeal.defs _ _).mono (fun _ h c => ?_) (PI.run_main (F := Ideal) m g)
    exact ⟨h.1 c _ (PI.mem_uc Cert.KernelIdeal.main_v52 rfl), h.1 c _ (PI.mem_uc Cert.KernelIdeal.main_v53 rfl), h.1 c _ (PI.mem_uc Cert.KernelIdeal.main_v54 rfl),
      (h.1 c _ (PI.mem_uc Cert.KernelIdeal.main_arg0 rfl)).trans (PI.V5_args m c).1,
      (h.1 c _ (PI.mem_uc Cert.KernelIdeal.main_arg1 rfl)).trans (PI.V5_args m c).2.1,
      (h.1 c _ (PI.mem_uc Cert.KernelIdeal.main_arg2 rfl)).trans (PI.V5_args m c).2.2.1,
      (h.1 c _ (PI.mem_uc Cert.KernelIdeal.main_arg3 rfl)).trans (PI.V5_args m c).2.2.2.1,
      (h.1 c _ (PI.mem_uc Cert.KernelIdeal.main_arg4 rfl)).trans (PI.V5_args m c).2.2.2.2⟩
  · refine (θ_run Cert.ReferenceIdeal.defs _ _).mono (fun _ h c => ?_) (Cert.ReferenceIdeal.Value.run_fold (F := Ideal) m' g')
    obtain ⟨hd, hb, hσ⟩ := ht c
    obtain ⟨a0, a1, a2, a3, a4⟩ := hargs c
    have e0 : R.rObs (R.M0 m' c) = E.kObs (PI.V0 m c) := a0
    have e1 : R.rLam (R.M0 m' c) = E.kLam (PI.V0 m c) := congrArg (E.sc (α := EReal)) a1
    have e2 : R.rC (R.M0 m' c) = E.kC (PI.V0 m c) := congrArg (E.sc (α := EReal)) a2
    have e3 : R.rB (R.M0 m' c) = E.kB (PI.V0 m c) := congrArg (E.sc (α := EReal)) a3
    have e4 : R.rS (R.M0 m' c) = E.kS (PI.V0 m c) := congrArg (E.sc (α := EReal)) a4
    have hd' : E.Days (R.rObs (R.M0 m' c)) := by rw [e0]; exact hd
    have r46 := R.ref_46 m' c hd'
    have r15 := R.ref_15 m' c hd'
    have r45 := R.ref_45 m' c hd'
    rw [e0, e1, e2, e3, e4] at r46 r15
    rw [e1, e2, e3] at r45
    refine ⟨?_, ?_, ?_, (h c Cert.ReferenceIdeal.main_arg0 rfl).trans (R.final_args m' c).1, (h c Cert.ReferenceIdeal.main_arg1 rfl).trans (R.final_args m' c).2.1,
      (h c Cert.ReferenceIdeal.main_arg2 rfl).trans (R.final_args m' c).2.2.1, (h c Cert.ReferenceIdeal.main_arg3 rfl).trans (R.final_args m' c).2.2.2.1,
      (h c Cert.ReferenceIdeal.main_arg4 rfl).trans (R.final_args m' c).2.2.2.2⟩
    · refine (h c Cert.ReferenceIdeal.main_v46 rfl).trans ?_
      rw [R.final_eq]
      exact r46.trans (E.ker_52 m c hσ hb hd).symm
    · refine (h c Cert.ReferenceIdeal.main_v15 rfl).trans ?_
      rw [R.final_eq]
      exact r15.trans (E.ker_53 m c hσ).symm
    · refine (h c Cert.ReferenceIdeal.main_v45 rfl).trans ?_
      rw [R.final_eq]
      exact r45.trans (E.ker_54 m c hb hd).symm

end Cert.Proof

end
-- ==== Proof.lean ====
/-
  The certificate's claim, put together from what the modules under Proof/ prove.
-/
module

public import proofs.«01_k».proof.Defs
public import proofs.«01_k».proof.Proof.Algebraic

@[expose] public section

noncomputable section

namespace Cert.Proof

/-- Every claim of the certificate: the frames, the kernel's program kept as it is, and its three results the reference's. -/
theorem claim : Cert.Claim :=
  ⟨Cert.Kernel.Gen.facts, Cert.KernelIdeal.Gen.facts, Cert.ReferenceIdeal.Gen.facts, preFacts,
    frame_kernel, frame_kernelIdeal, frame_referenceIdeal, frame_referenceIdeal_pre, trivial, algebraic⟩

end Cert.Proof

end
